-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_first_step_taken [hPre_first_step_taken : Cert.Pre_first_step_taken.Facts] (m : (ℓ : Loc Cert.KernelIdeal.nD Cert.KernelIdeal.τ Cert.KernelIdeal.sig) → Buf (Elt Ideal) ℓ) : Prop :=
  ∀ c : Dev Cert.KernelIdeal.nD,
    (Cert.Pre_first_step_taken.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_first_step_taken [hPre_first_step_taken : Cert.Pre_first_step_taken.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_first_step_taken.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Update (m : (ℓ : Loc Cert.Update.nD Cert.Update.τ Cert.Update.sig) → Buf (Elt Bits) ℓ) : Prop :=
  True

def Pre_UpdateIdeal (m : (ℓ : Loc Cert.UpdateIdeal.nD Cert.UpdateIdeal.τ Cert.UpdateIdeal.sig) → Buf (Elt Ideal) ℓ) : Prop :=
  True

def Pre_UpdateReferenceIdeal (m : (ℓ : Loc Cert.UpdateReferenceIdeal.nD Cert.UpdateReferenceIdeal.τ Cert.UpdateReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_first_step_taken [hKernelIdeal : Cert.KernelIdeal.Facts] [hPre_first_step_taken : Cert.Pre_first_step_taken.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_first_step_taken m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_first_step_taken [hReferenceIdeal : Cert.ReferenceIdeal.Facts] [hPre_first_step_taken : Cert.Pre_first_step_taken.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_first_step_taken m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Update [hUpdate : Cert.Update.Facts] : Prop :=
  ∀ (m : (ℓ : Loc Cert.Update.nD Cert.Update.τ Cert.Update.sig) → Buf (Elt Bits) ℓ) (g : Dev Cert.Update.nD → PrngReg), Pre_Update m →
    θ_run (Cert.Update.defs (F := Bits)) (onTc (τ := Cert.Update.τ) (Cert.Update.main (F := Bits))) ⟨m, fun _ => 0, g⟩ (fun r => (∀ c : Dev Cert.Update.nD,
      r.2.mem ((c.tc : Thread Cert.Update.nD Cert.Update.τ).loc Cert.Update.main_arg0) = m ((c.tc : Thread Cert.Update.nD Cert.Update.τ).loc Cert.Update.main_arg0)
      ∧ r.2.mem ((c.tc : Thread Cert.Update.nD Cert.Update.τ).loc Cert.Update.main_arg1) = m ((c.tc : Thread Cert.Update.nD Cert.Update.τ).loc Cert.Update.main_arg1)
      ∧ r.2.mem ((c.tc : Thread Cert.Update.nD Cert.Update.τ).loc Cert.Update.main_arg2) = m ((c.tc : Thread Cert.Update.nD Cert.Update.τ).loc Cert.Update.main_arg2)
      ∧ r.2.mem ((c.tc : Thread Cert.Update.nD Cert.Update.τ).loc Cert.Update.main_arg3) = m ((c.tc : Thread Cert.Update.nD Cert.Update.τ).loc Cert.Update.main_arg3)
      ∧ r.2.mem ((c.tc : Thread Cert.Update.nD Cert.Update.τ).loc Cert.Update.main_arg4) = m ((c.tc : Thread Cert.Update.nD Cert.Update.τ).loc Cert.Update.main_arg4))
      ∧ r.2.sem = fun _ => 0)

def quiescent_UpdateIdeal [hUpdateIdeal : Cert.UpdateIdeal.Facts] : Prop :=
  ∀ (m : (ℓ : Loc Cert.UpdateIdeal.nD Cert.UpdateIdeal.τ Cert.UpdateIdeal.sig) → Buf (Elt Ideal) ℓ) (g : Dev Cert.UpdateIdeal.nD → PrngReg), Pre_UpdateIdeal m →
    θ_run (Cert.UpdateIdeal.defs (F := Ideal)) (onTc (τ := Cert.UpdateIdeal.τ) (Cert.UpdateIdeal.main (F := Ideal))) ⟨m, fun _ => 0, g⟩ (fun r => (∀ c : Dev Cert.UpdateIdeal.nD,
      r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
      ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
      ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
      ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3)
      ∧ r.2.mem ((c.tc : Thread Cert.UpdateIdeal.nD Cert.UpdateIdeal.τ).loc Cert.UpdateIdeal.main_arg4) = m ((c.tc : Thread Cert.UpdateIdeal.nD Cert.UpdateIdeal.τ).loc Cert.UpdateIdeal.main_arg4))
      ∧ r.2.sem = fun _ => 0)

def quiescent_UpdateReferenceIdeal [hUpdateReferenceIdeal : Cert.UpdateReferenceIdeal.Facts] : Prop :=
  ∀ (m : (ℓ : Loc Cert.UpdateReferenceIdeal.nD Cert.UpdateReferenceIdeal.τ Cert.UpdateReferenceIdeal.sig) → Buf (Elt Ideal) ℓ) (g : Dev Cert.UpdateReferenceIdeal.nD → PrngReg), Pre_UpdateReferenceIdeal m →
    θ_run (Cert.UpdateReferenceIdeal.defs (F := Ideal)) (onTc (τ := Cert.UpdateReferenceIdeal.τ) (Cert.UpdateReferenceIdeal.main (F := Ideal))) ⟨m, fun _ => 0, g⟩ (fun r => (∀ c : Dev Cert.UpdateReferenceIdeal.nD,
      r.2.mem ((c.tc : Thread Cert.UpdateReferenceIdeal.nD Cert.UpdateReferenceIdeal.τ).loc Cert.UpdateReferenceIdeal.main_arg0) = m ((c.tc : Thread Cert.UpdateReferenceIdeal.nD Cert.UpdateReferenceIdeal.τ).loc Cert.UpdateReferenceIdeal.main_arg0)
      ∧ r.2.mem ((c.tc : Thread Cert.UpdateReferenceIdeal.nD Cert.UpdateReferenceIdeal.τ).loc Cert.UpdateReferenceIdeal.main_arg1) = m ((c.tc : Thread Cert.UpdateReferenceIdeal.nD Cert.UpdateReferenceIdeal.τ).loc Cert.UpdateReferenceIdeal.main_arg1)
      ∧ r.2.mem ((c.tc : Thread Cert.UpdateReferenceIdeal.nD Cert.UpdateReferenceIdeal.τ).loc Cert.UpdateReferenceIdeal.main_arg2) = m ((c.tc : Thread Cert.UpdateReferenceIdeal.nD Cert.UpdateReferenceIdeal.τ).loc Cert.UpdateReferenceIdeal.main_arg2)
      ∧ r.2.mem ((c.tc : Thread Cert.UpdateReferenceIdeal.nD Cert.UpdateReferenceIdeal.τ).loc Cert.UpdateReferenceIdeal.main_arg3) = m ((c.tc : Thread Cert.UpdateReferenceIdeal.nD Cert.UpdateReferenceIdeal.τ).loc Cert.UpdateReferenceIdeal.main_arg3)
      ∧ r.2.mem ((c.tc : Thread Cert.UpdateReferenceIdeal.nD Cert.UpdateReferenceIdeal.τ).loc Cert.UpdateReferenceIdeal.main_arg4) = m ((c.tc : Thread Cert.UpdateReferenceIdeal.nD Cert.UpdateReferenceIdeal.τ).loc Cert.UpdateReferenceIdeal.main_arg4))
      ∧ r.2.sem = fun _ => 0)

def preserves_Kernel_KernelIdeal : Prop :=
  True

def algebraic_KernelIdeal_ReferenceIdeal_pre_first_step_taken [hKernelIdeal : Cert.KernelIdeal.Facts] [hReferenceIdeal : Cert.ReferenceIdeal.Facts] [hPre_first_step_taken : Cert.Pre_first_step_taken.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_first_step_taken m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v18_0)) (v3 : (c : Dev Cert.KernelIdeal.nD) → Buf (Elt Ideal) ((c.tc : Thread Cert.KernelIdeal.nD Cert.KernelIdeal.τ).loc Cert.KernelIdeal.main_v18_1)) (v4 : (c : Dev Cert.KernelIdeal.nD) → Buf (Elt Ideal) ((c.tc : Thread Cert.KernelIdeal.nD Cert.KernelIdeal.τ).loc Cert.KernelIdeal.main_v18_2)) (v5 : (c : Dev Cert.KernelIdeal.nD) → Buf (Elt Ideal) ((c.tc : Thread Cert.KernelIdeal.nD Cert.KernelIdeal.τ).loc Cert.KernelIdeal.main_v18_3)) (v6 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v18_0) = v2 c
          ∧ r.2.mem ((c.tc : Thread Cert.KernelIdeal.nD Cert.KernelIdeal.τ).loc Cert.KernelIdeal.main_v18_1) = v3 c
          ∧ r.2.mem ((c.tc : Thread Cert.KernelIdeal.nD Cert.KernelIdeal.τ).loc Cert.KernelIdeal.main_v18_2) = v4 c
          ∧ r.2.mem ((c.tc : Thread Cert.KernelIdeal.nD Cert.KernelIdeal.τ).loc Cert.KernelIdeal.main_v18_3) = v5 c
          ∧ r.2.mem ((c.tc : Thread Cert.KernelIdeal.nD Cert.KernelIdeal.τ).loc Cert.KernelIdeal.main_v25) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_v47) = v3 c
          ∧ r.2.mem ((c.tc : Thread Cert.ReferenceIdeal.nD Cert.ReferenceIdeal.τ).loc Cert.ReferenceIdeal.main_v23) = v4 c
          ∧ r.2.mem ((c.tc : Thread Cert.ReferenceIdeal.nD Cert.ReferenceIdeal.τ).loc Cert.ReferenceIdeal.main_v29) = v5 c
          ∧ r.2.mem ((c.tc : Thread Cert.ReferenceIdeal.nD Cert.ReferenceIdeal.τ).loc Cert.ReferenceIdeal.main_v53) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Update_UpdateIdeal : Prop :=
  True

def algebraic_UpdateIdeal_UpdateReferenceIdeal_on_exponent_settled [hUpdateIdeal : Cert.UpdateIdeal.Facts] [hUpdateReferenceIdeal : Cert.UpdateReferenceIdeal.Facts] [hOn_exponent_settled : Cert.On_exponent_settled.Facts] : Prop :=
  ∀ (m : (ℓ : Loc Cert.UpdateIdeal.nD Cert.UpdateIdeal.τ Cert.UpdateIdeal.sig) → Buf (Elt Ideal) ℓ) (g : Dev Cert.UpdateIdeal.nD → PrngReg)
    (m' : (ℓ : Loc Cert.UpdateReferenceIdeal.nD Cert.UpdateReferenceIdeal.τ Cert.UpdateReferenceIdeal.sig) → Buf (Elt Ideal) ℓ) (g' : Dev Cert.UpdateReferenceIdeal.nD → PrngReg), Pre_UpdateIdeal m →
    (∀ c : Dev Cert.UpdateIdeal.nD,
      m' ((c.tc : Thread Cert.UpdateReferenceIdeal.nD Cert.UpdateReferenceIdeal.τ).loc Cert.UpdateReferenceIdeal.main_arg0) = m ((c.tc : Thread Cert.UpdateIdeal.nD Cert.UpdateIdeal.τ).loc Cert.UpdateIdeal.main_arg0)
      ∧ m' ((c.tc : Thread Cert.UpdateReferenceIdeal.nD Cert.UpdateReferenceIdeal.τ).loc Cert.UpdateReferenceIdeal.main_arg1) = m ((c.tc : Thread Cert.UpdateIdeal.nD Cert.UpdateIdeal.τ).loc Cert.UpdateIdeal.main_arg1)
      ∧ m' ((c.tc : Thread Cert.UpdateReferenceIdeal.nD Cert.UpdateReferenceIdeal.τ).loc Cert.UpdateReferenceIdeal.main_arg2) = m ((c.tc : Thread Cert.UpdateIdeal.nD Cert.UpdateIdeal.τ).loc Cert.UpdateIdeal.main_arg2)
      ∧ m' ((c.tc : Thread Cert.UpdateReferenceIdeal.nD Cert.UpdateReferenceIdeal.τ).loc Cert.UpdateReferenceIdeal.main_arg3) = m ((c.tc : Thread Cert.UpdateIdeal.nD Cert.UpdateIdeal.τ).loc Cert.UpdateIdeal.main_arg3)
      ∧ m' ((c.tc : Thread Cert.UpdateReferenceIdeal.nD Cert.UpdateReferenceIdeal.τ).loc Cert.UpdateReferenceIdeal.main_arg4) = m ((c.tc : Thread Cert.UpdateIdeal.nD Cert.UpdateIdeal.τ).loc Cert.UpdateIdeal.main_arg4)) →
    ∃ (v0 : (c : Dev Cert.UpdateIdeal.nD) → Buf (Elt Ideal) ((c.tc : Thread Cert.UpdateIdeal.nD Cert.UpdateIdeal.τ).loc Cert.UpdateIdeal.main_v0_4)) (v1 : (c : Dev Cert.UpdateIdeal.nD) → Buf (Elt Ideal) ((c.tc : Thread Cert.UpdateIdeal.nD Cert.UpdateIdeal.τ).loc Cert.UpdateIdeal.main_v0_5)) (v2 : (c : Dev Cert.UpdateIdeal.nD) → Buf (Elt Ideal) ((c.tc : Thread Cert.UpdateIdeal.nD Cert.UpdateIdeal.τ).loc Cert.UpdateIdeal.main_v0_6)) (v3 : (c : Dev Cert.UpdateIdeal.nD) → Buf (Elt Ideal) ((c.tc : Thread Cert.UpdateIdeal.nD Cert.UpdateIdeal.τ).loc Cert.UpdateIdeal.main_v3)),
      θ_run (Cert.UpdateIdeal.defs (F := Ideal)) (onTc (τ := Cert.UpdateIdeal.τ) (Cert.UpdateIdeal.main (F := Ideal))) ⟨m, fun _ => 0, g⟩ (fun r => ∀ c : Dev Cert.UpdateIdeal.nD,
          (∀ i : (⟨3, ![11, 3072, 1024]⟩ : Shape).Idx, (Cert.On_exponent_settled.fn (F := Ideal) (m ((c.tc : Thread Cert.UpdateIdeal.nD Cert.UpdateIdeal.τ).loc Cert.UpdateIdeal.main_arg0)) (m ((c.tc : Thread Cert.UpdateIdeal.nD Cert.UpdateIdeal.τ).loc Cert.UpdateIdeal.main_arg1)) (m ((c.tc : Thread Cert.UpdateIdeal.nD Cert.UpdateIdeal.τ).loc Cert.UpdateIdeal.main_arg2)) (m ((c.tc : Thread Cert.UpdateIdeal.nD Cert.UpdateIdeal.τ).loc Cert.UpdateIdeal.main_arg3)) (m ((c.tc : Thread Cert.UpdateIdeal.nD Cert.UpdateIdeal.τ).loc Cert.UpdateIdeal.main_arg4))).1 i = 1#1 → r.2.mem ((c.tc : Thread Cert.UpdateIdeal.nD Cert.UpdateIdeal.τ).loc Cert.UpdateIdeal.main_v0_4) i = v0 c i)
          ∧ (∀ i : (⟨3, ![11, 3072, 32]⟩ : Shape).Idx, (Cert.On_exponent_settled.fn (F := Ideal) (m ((c.tc : Thread Cert.UpdateIdeal.nD Cert.UpdateIdeal.τ).loc Cert.UpdateIdeal.main_arg0)) (m ((c.tc : Thread Cert.UpdateIdeal.nD Cert.UpdateIdeal.τ).loc Cert.UpdateIdeal.main_arg1)) (m ((c.tc : Thread Cert.UpdateIdeal.nD Cert.UpdateIdeal.τ).loc Cert.UpdateIdeal.main_arg2)) (m ((c.tc : Thread Cert.UpdateIdeal.nD Cert.UpdateIdeal.τ).loc Cert.UpdateIdeal.main_arg3)) (m ((c.tc : Thread Cert.UpdateIdeal.nD Cert.UpdateIdeal.τ).loc Cert.UpdateIdeal.main_arg4))).2.1 i = 1#1 → r.2.mem ((c.tc : Thread Cert.UpdateIdeal.nD Cert.UpdateIdeal.τ).loc Cert.UpdateIdeal.main_v0_5) i = v1 c i)
          ∧ (∀ i : (⟨3, ![11, 1024, 3072]⟩ : Shape).Idx, (Cert.On_exponent_settled.fn (F := Ideal) (m ((c.tc : Thread Cert.UpdateIdeal.nD Cert.UpdateIdeal.τ).loc Cert.UpdateIdeal.main_arg0)) (m ((c.tc : Thread Cert.UpdateIdeal.nD Cert.UpdateIdeal.τ).loc Cert.UpdateIdeal.main_arg1)) (m ((c.tc : Thread Cert.UpdateIdeal.nD Cert.UpdateIdeal.τ).loc Cert.UpdateIdeal.main_arg2)) (m ((c.tc : Thread Cert.UpdateIdeal.nD Cert.UpdateIdeal.τ).loc Cert.UpdateIdeal.main_arg3)) (m ((c.tc : Thread Cert.UpdateIdeal.nD Cert.UpdateIdeal.τ).loc Cert.UpdateIdeal.main_arg4))).2.2.1 i = 1#1 → r.2.mem ((c.tc : Thread Cert.UpdateIdeal.nD Cert.UpdateIdeal.τ).loc Cert.UpdateIdeal.main_v0_6) i = v2 c i)
          ∧ (∀ i : (⟨3, ![11, 1024, 96]⟩ : Shape).Idx, (Cert.On_exponent_settled.fn (F := Ideal) (m ((c.tc : Thread Cert.UpdateIdeal.nD Cert.UpdateIdeal.τ).loc Cert.UpdateIdeal.main_arg0)) (m ((c.tc : Thread Cert.UpdateIdeal.nD Cert.UpdateIdeal.τ).loc Cert.UpdateIdeal.main_arg1)) (m ((c.tc : Thread Cert.UpdateIdeal.nD Cert.UpdateIdeal.τ).loc Cert.UpdateIdeal.main_arg2)) (m ((c.tc : Thread Cert.UpdateIdeal.nD Cert.UpdateIdeal.τ).loc Cert.UpdateIdeal.main_arg3)) (m ((c.tc : Thread Cert.UpdateIdeal.nD Cert.UpdateIdeal.τ).loc Cert.UpdateIdeal.main_arg4))).2.2.2 i = 1#1 → r.2.mem ((c.tc : Thread Cert.UpdateIdeal.nD Cert.UpdateIdeal.τ).loc Cert.UpdateIdeal.main_v3) i = v3 c i)
          ∧ r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
          ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
          ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
          ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3)
          ∧ r.2.mem ((c.tc : Thread Cert.UpdateIdeal.nD Cert.UpdateIdeal.τ).loc Cert.UpdateIdeal.main_arg4) = m ((c.tc : Thread Cert.UpdateIdeal.nD Cert.UpdateIdeal.τ).loc Cert.UpdateIdeal.main_arg4))
      ∧ θ_run (Cert.UpdateReferenceIdeal.defs (F := Ideal)) (onTc (τ := Cert.UpdateReferenceIdeal.τ) (Cert.UpdateReferenceIdeal.main (F := Ideal))) ⟨m', fun _ => 0, g'⟩ (fun r => ∀ c : Dev Cert.UpdateReferenceIdeal.nD,
          (∀ i : (⟨3, ![11, 3072, 1024]⟩ : Shape).Idx, (Cert.On_exponent_settled.fn (F := Ideal) (m ((c.tc : Thread Cert.UpdateIdeal.nD Cert.UpdateIdeal.τ).loc Cert.UpdateIdeal.main_arg0)) (m ((c.tc : Thread Cert.UpdateIdeal.nD Cert.UpdateIdeal.τ).loc Cert.UpdateIdeal.main_arg1)) (m ((c.tc : Thread Cert.UpdateIdeal.nD Cert.UpdateIdeal.τ).loc Cert.UpdateIdeal.main_arg2)) (m ((c.tc : Thread Cert.UpdateIdeal.nD Cert.UpdateIdeal.τ).loc Cert.UpdateIdeal.main_arg3)) (m ((c.tc : Thread Cert.UpdateIdeal.nD Cert.UpdateIdeal.τ).loc Cert.UpdateIdeal.main_arg4))).1 i = 1#1 → r.2.mem ((c.tc : Thread Cert.UpdateReferenceIdeal.nD Cert.UpdateReferenceIdeal.τ).loc Cert.UpdateReferenceIdeal.main_v63) i = v0 c i)
          ∧ (∀ i : (⟨3, ![11, 3072, 32]⟩ : Shape).Idx, (Cert.On_exponent_settled.fn (F := Ideal) (m ((c.tc : Thread Cert.UpdateIdeal.nD Cert.UpdateIdeal.τ).loc Cert.UpdateIdeal.main_arg0)) (m ((c.tc : Thread Cert.UpdateIdeal.nD Cert.UpdateIdeal.τ).loc Cert.UpdateIdeal.main_arg1)) (m ((c.tc : Thread Cert.UpdateIdeal.nD Cert.UpdateIdeal.τ).loc Cert.UpdateIdeal.main_arg2)) (m ((c.tc : Thread Cert.UpdateIdeal.nD Cert.UpdateIdeal.τ).loc Cert.UpdateIdeal.main_arg3)) (m ((c.tc : Thread Cert.UpdateIdeal.nD Cert.UpdateIdeal.τ).loc Cert.UpdateIdeal.main_arg4))).2.1 i = 1#1 → r.2.mem ((c.tc : Thread Cert.UpdateReferenceIdeal.nD Cert.UpdateReferenceIdeal.τ).loc Cert.UpdateReferenceIdeal.main_v66) i = v1 c i)
          ∧ (∀ i : (⟨3, ![11, 1024, 3072]⟩ : Shape).Idx, (Cert.On_exponent_settled.fn (F := Ideal) (m ((c.tc : Thread Cert.UpdateIdeal.nD Cert.UpdateIdeal.τ).loc Cert.UpdateIdeal.main_arg0)) (m ((c.tc : Thread Cert.UpdateIdeal.nD Cert.UpdateIdeal.τ).loc Cert.UpdateIdeal.main_arg1)) (m ((c.tc : Thread Cert.UpdateIdeal.nD Cert.UpdateIdeal.τ).loc Cert.UpdateIdeal.main_arg2)) (m ((c.tc : Thread Cert.UpdateIdeal.nD Cert.UpdateIdeal.τ).loc Cert.UpdateIdeal.main_arg3)) (m ((c.tc : Thread Cert.UpdateIdeal.nD Cert.UpdateIdeal.τ).loc Cert.UpdateIdeal.main_arg4))).2.2.1 i = 1#1 → r.2.mem ((c.tc : Thread Cert.UpdateReferenceIdeal.nD Cert.UpdateReferenceIdeal.τ).loc Cert.UpdateReferenceIdeal.main_v100) i = v2 c i)
          ∧ (∀ i : (⟨3, ![11, 1024, 96]⟩ : Shape).Idx, (Cert.On_exponent_settled.fn (F := Ideal) (m ((c.tc : Thread Cert.UpdateIdeal.nD Cert.UpdateIdeal.τ).loc Cert.UpdateIdeal.main_arg0)) (m ((c.tc : Thread Cert.UpdateIdeal.nD Cert.UpdateIdeal.τ).loc Cert.UpdateIdeal.main_arg1)) (m ((c.tc : Thread Cert.UpdateIdeal.nD Cert.UpdateIdeal.τ).loc Cert.UpdateIdeal.main_arg2)) (m ((c.tc : Thread Cert.UpdateIdeal.nD Cert.UpdateIdeal.τ).loc Cert.UpdateIdeal.main_arg3)) (m ((c.tc : Thread Cert.UpdateIdeal.nD Cert.UpdateIdeal.τ).loc Cert.UpdateIdeal.main_arg4))).2.2.2 i = 1#1 → r.2.mem ((c.tc : Thread Cert.UpdateReferenceIdeal.nD Cert.UpdateReferenceIdeal.τ).loc Cert.UpdateReferenceIdeal.main_v103) i = v3 c i)
          ∧ r.2.mem ((c.tc : Thread Cert.UpdateReferenceIdeal.nD Cert.UpdateReferenceIdeal.τ).loc Cert.UpdateReferenceIdeal.main_arg0) = m' ((c.tc : Thread Cert.UpdateReferenceIdeal.nD Cert.UpdateReferenceIdeal.τ).loc Cert.UpdateReferenceIdeal.main_arg0)
          ∧ r.2.mem ((c.tc : Thread Cert.UpdateReferenceIdeal.nD Cert.UpdateReferenceIdeal.τ).loc Cert.UpdateReferenceIdeal.main_arg1) = m' ((c.tc : Thread Cert.UpdateReferenceIdeal.nD Cert.UpdateReferenceIdeal.τ).loc Cert.UpdateReferenceIdeal.main_arg1)
          ∧ r.2.mem ((c.tc : Thread Cert.UpdateReferenceIdeal.nD Cert.UpdateReferenceIdeal.τ).loc Cert.UpdateReferenceIdeal.main_arg2) = m' ((c.tc : Thread Cert.UpdateReferenceIdeal.nD Cert.UpdateReferenceIdeal.τ).loc Cert.UpdateReferenceIdeal.main_arg2)
          ∧ r.2.mem ((c.tc : Thread Cert.UpdateReferenceIdeal.nD Cert.UpdateReferenceIdeal.τ).loc Cert.UpdateReferenceIdeal.main_arg3) = m' ((c.tc : Thread Cert.UpdateReferenceIdeal.nD Cert.UpdateReferenceIdeal.τ).loc Cert.UpdateReferenceIdeal.main_arg3)
          ∧ r.2.mem ((c.tc : Thread Cert.UpdateReferenceIdeal.nD Cert.UpdateReferenceIdeal.τ).loc Cert.UpdateReferenceIdeal.main_arg4) = m' ((c.tc : Thread Cert.UpdateReferenceIdeal.nD Cert.UpdateReferenceIdeal.τ).loc Cert.UpdateReferenceIdeal.main_arg4))

def Claim : Prop :=
  ∃ (hKernel : Cert.Kernel.Facts) (hKernelIdeal : Cert.KernelIdeal.Facts) (hReferenceIdeal : Cert.ReferenceIdeal.Facts) (hUpdate : Cert.Update.Facts) (hUpdateIdeal : Cert.UpdateIdeal.Facts) (hUpdateReferenceIdeal : Cert.UpdateReferenceIdeal.Facts) (hPre_first_step_taken : Cert.Pre_first_step_taken.Facts) (hOn_exponent_settled : Cert.On_exponent_settled.Facts),
    quiescent_Kernel (hKernel := hKernel)
    ∧ quiescent_KernelIdeal (hKernelIdeal := hKernelIdeal)
    ∧ quiescent_KernelIdeal_pre_first_step_taken (hKernelIdeal := hKernelIdeal) (hPre_first_step_taken := hPre_first_step_taken)
    ∧ quiescent_ReferenceIdeal (hReferenceIdeal := hReferenceIdeal)
    ∧ quiescent_ReferenceIdeal_pre_first_step_taken (hReferenceIdeal := hReferenceIdeal) (hPre_first_step_taken := hPre_first_step_taken)
    ∧ quiescent_Update (hUpdate := hUpdate)
    ∧ quiescent_UpdateIdeal (hUpdateIdeal := hUpdateIdeal)
    ∧ quiescent_UpdateReferenceIdeal (hUpdateReferenceIdeal := hUpdateReferenceIdeal)
    ∧ preserves_Kernel_KernelIdeal
    ∧ algebraic_KernelIdeal_ReferenceIdeal_pre_first_step_taken (hKernelIdeal := hKernelIdeal) (hReferenceIdeal := hReferenceIdeal) (hPre_first_step_taken := hPre_first_step_taken)
    ∧ preserves_Update_UpdateIdeal
    ∧ algebraic_UpdateIdeal_UpdateReferenceIdeal_on_exponent_settled (hUpdateIdeal := hUpdateIdeal) (hUpdateReferenceIdeal := hUpdateReferenceIdeal) (hOn_exponent_settled := hOn_exponent_settled)
-- ==== On_exponent_settled.lean ====
abbrev S3 : Shape := ⟨1, ![3]⟩
abbrev S11x3072x1024 : Shape := ⟨3, ![11, 3072, 1024]⟩
abbrev S1 : Shape := ⟨1, ![1]⟩
abbrev S_ : Shape := ⟨0, ![]⟩
abbrev S11x3072x32x32 : Shape := ⟨4, ![11, 3072, 32, 32]⟩
abbrev S11x3072x32 : Shape := ⟨3, ![11, 3072, 32]⟩
abbrev S254 : Shape := ⟨1, ![254]⟩
abbrev S11x3072x32x1 : Shape := ⟨4, ![11, 3072, 32, 1]⟩
abbrev S1x1x1x254 : Shape := ⟨4, ![1, 1, 1, 254]⟩
abbrev S11x3072x32x254 : Shape := ⟨4, ![11, 3072, 32, 254]⟩
abbrev S11x1024x3072 : Shape := ⟨3, ![11, 1024, 3072]⟩
abbrev S11x1024x96x32 : Shape := ⟨4, ![11, 1024, 96, 32]⟩
abbrev S11x1024x96 : Shape := ⟨3, ![11, 1024, 96]⟩
abbrev S11x1024x96x1 : Shape := ⟨4, ![11, 1024, 96, 1]⟩
abbrev S11x1024x96x254 : Shape := ⟨4, ![11, 1024, 96, 254]⟩

class Facts : Prop where
  slices_S3_S1_0 : S3.Slices ![0] S1
  shapeCasts_S1_S_ : S1.ShapeCasts S_
  slices_S3_S1_1 : S3.Slices ![1] S1
  slices_S3_S1_2 : S3.Slices ![2] S1
  bcast_S_S11x3072x1024 : S_.BroadcastsInDim S11x3072x1024 (![] : Fin 0 → Fin S11x3072x1024.rank)
  shapeCasts_S11x3072x1024_S11x3072x32x32 : S11x3072x1024.ShapeCasts S11x3072x32x32
  reducesTo_S11x3072x32x32_S11x3072x32_d3 : S11x3072x32x32.ReducesTo [3] S11x3072x32
  h_S_ : 0 < S_.numel
  bcast_S_S11x3072x32 : S_.BroadcastsInDim S11x3072x32 (![] : Fin 0 → Fin S11x3072x32.rank)
  bcast_S_S254 : S_.BroadcastsInDim S254 (![] : Fin 0 → Fin S254.rank)
  bcast_S11x3072x32_S11x3072x32x1_0_1_2 : S11x3072x32.BroadcastsInDim S11x3072x32x1 (![0, 1, 2] : Fin 3 → Fin S11x3072x32x1.rank)
  bcast_S254_S1x1x1x254_3 : S254.BroadcastsInDim S1x1x1x254 (![3] : Fin 1 → Fin S1x1x1x254.rank)
  bcast_S11x3072x32x1_S11x3072x32x254_0_1_2_3 : S11x3072x32x1.BroadcastsInDim S11x3072x32x254 (![0, 1, 2, 3] : Fin 4 → Fin S11x3072x32x254.rank)
  bcast_S1x1x1x254_S11x3072x32x254_0_1_2_3 : S1x1x1x254.BroadcastsInDim S11x3072x32x254 (![0, 1, 2, 3] : Fin 4 → Fin S11x3072x32x254.rank)
  reducesTo_S11x3072x32x254_S11x3072x32_d3 : S11x3072x32x254.ReducesTo [3] S11x3072x32
  transposes_S11x3072x1024_S11x1024x3072_0_2_1 : S11x3072x1024.Transposes [0, 2, 1] S11x1024x3072
  shapeCasts_S11x1024x3072_S11x1024x96x32 : S11x1024x3072.ShapeCasts S11x1024x96x32
  reducesTo_S11x1024x96x32_S11x1024x96_d3 : S11x1024x96x32.ReducesTo [3] S11x1024x96
  bcast_S_S11x1024x96 : S_.BroadcastsInDim S11x1024x96 (![] : Fin 0 → Fin S11x1024x96.rank)
  bcast_S11x1024x96_S11x1024x96x1_0_1_2 : S11x1024x96.BroadcastsInDim S11x1024x96x1 (![0, 1, 2] : Fin 3 → Fin S11x1024x96x1.rank)
  bcast_S11x1024x96x1_S11x1024x96x254_0_1_2_3 : S11x1024x96x1.BroadcastsInDim S11x1024x96x254 (![0, 1, 2, 3] : Fin 4 → Fin S11x1024x96x254.rank)
  bcast_S1x1x1x254_S11x1024x96x254_0_1_2_3 : S1x1x1x254.BroadcastsInDim S11x1024x96x254 (![0, 1, 2, 3] : Fin 4 → Fin S11x1024x96x254.rank)
  reducesTo_S11x1024x96x254_S11x1024x96_d3 : S11x1024x96x254.ReducesTo [3] S11x1024x96
  bcast_S11x3072x32x1_S11x3072x32x32_0_1_2_3 : S11x3072x32x1.BroadcastsInDim S11x3072x32x32 (![0, 1, 2, 3] : Fin 4 → Fin S11x3072x32x32.rank)
  shapeCasts_S11x3072x32x32_S11x3072x1024 : S11x3072x32x32.ShapeCasts S11x3072x1024
  bcast_S11x1024x96x1_S11x1024x96x32_0_1_2_3 : S11x1024x96x1.BroadcastsInDim S11x1024x96x32 (![0, 1, 2, 3] : Fin 4 → Fin S11x1024x96x32.rank)
  shapeCasts_S11x1024x96x32_S11x1024x3072 : S11x1024x96x32.ShapeCasts S11x1024x3072

variable [Facts]

def fn_part5 {F : FTy → Type} [FloatOps F] (main_v64 : IVec S11x3072x32 1) (main_v89 : IVec S11x1024x96x254 1) (main_v94 : IVec S11x1024x96 1) (main_v96 : IVec S11x1024x96 1) : IVec S11x3072x1024 1 × IVec S11x3072x32 1 × IVec S11x1024x3072 1 × IVec S11x1024x96 1 :=
  let main_c_21 : IVec S_ 1 := constantI S_ 1 1#1
  let main_v97 : IVec S11x1024x96 1 := (fun x v => Host.reduce IntOp.andi x v reducesTo_S11x1024x96x254_S11x1024x96_d3 h_S_) main_v89 main_c_21
  let main_v98 : IVec S11x1024x96 1 := andi main_v94 main_v97
  let main_v99 : IVec S11x1024x96 1 := ori main_v96 main_v98
  let main_v100 : IVec S11x3072x32x1 1 := broadcastInDim S11x3072x32x1 ![0, 1, 2] bcast_S11x3072x32_S11x3072x32x1_0_1_2 main_v64
  let main_v101 : IVec S11x3072x32x32 1 := broadcastInDim S11x3072x32x32 ![0, 1, 2, 3] bcast_S11x3072x32x1_S11x3072x32x32_0_1_2_3 main_v100
  let main_v102 : IVec S11x3072x1024 1 := shapeCast S11x3072x1024 main_v101 shapeCasts_S11x3072x32x32_S11x3072x1024
  let main_v103 : IVec S11x1024x96x1 1 := broadcastInDim S11x1024x96x1 ![0, 1, 2] bcast_S11x1024x96_S11x1024x96x1_0_1_2 main_v99
  let main_v104 : IVec S11x1024x96x32 1 := broadcastInDim S11x1024x96x32 ![0, 1, 2, 3] bcast_S11x1024x96x1_S11x1024x96x32_0_1_2_3 main_v103
  let main_v105 : IVec S11x1024x3072 1 := shapeCast S11x1024x3072 main_v104 shapeCasts_S11x1024x96x32_S11x1024x3072
  (main_v102, main_v64, main_v105, main_v99)

def fn_part4 {F : FTy → Type} [FloatOps F] (main_v64 : IVec S11x3072x32 1) (main_v68 : FVec F S11x1024x96 .f32) (main_v70 : FVec F S11x1024x96 .f32) (main_v76 : FVec F S254 .f32) : IVec S11x3072x1024 1 × IVec S11x3072x32 1 × IVec S11x1024x3072 1 × IVec S11x1024x96 1 :=
  let main_v77 : FVec F S11x1024x96x1 .f32 := broadcastInDim S11x1024x96x1 ![0, 1, 2] bcast_S11x1024x96_S11x1024x96x1_0_1_2 main_v70
  let main_v78 : FVec F S1x1x1x254 .f32 := broadcastInDim S1x1x1x254 ![3] bcast_S254_S1x1x1x254_3 main_v76
  let main_v79 : FVec F S11x1024x96x254 .f32 := broadcastInDim S11x1024x96x254 ![0, 1, 2, 3] bcast_S11x1024x96x1_S11x1024x96x254_0_1_2_3 main_v77
  let main_v80 : FVec F S11x1024x96x254 .f32 := broadcastInDim S11x1024x96x254 ![0, 1, 2, 3] bcast_S1x1x1x254_S11x1024x96x254_0_1_2_3 main_v78
  let main_v81 : IVec S11x1024x96x254 1 := cmpf .oge main_v79 main_v80
  let main_v82 : FVec F S11x1024x96x1 .f32 := broadcastInDim S11x1024x96x1 ![0, 1, 2] bcast_S11x1024x96_S11x1024x96x1_0_1_2 main_v70
  let main_cst_17 : FVec F S_ .f32 := constant S_ .f32 0x3F7FFFFF#32
  let main_v83 : FVec F S254 .f32 := broadcastInDim S254 ![] bcast_S_S254 main_cst_17
  let main_v84 : FVec F S254 .f32 := mulf main_v76 main_v83
  let main_v85 : FVec F S1x1x1x254 .f32 := broadcastInDim S1x1x1x254 ![3] bcast_S254_S1x1x1x254_3 main_v84
  let main_v86 : FVec F S11x1024x96x254 .f32 := broadcastInDim S11x1024x96x254 ![0, 1, 2, 3] bcast_S11x1024x96x1_S11x1024x96x254_0_1_2_3 main_v82
  let main_v87 : FVec F S11x1024x96x254 .f32 := broadcastInDim S11x1024x96x254 ![0, 1, 2, 3] bcast_S1x1x1x254_S11x1024x96x254_0_1_2_3 main_v85
  let main_v88 : IVec S11x1024x96x254 1 := cmpf .ogt main_v86 main_v87
  let main_v89 : IVec S11x1024x96x254 1 := cmpi .eq main_v81 main_v88
  let main_cst_18 : FVec F S_ .f32 := constant S_ .f32 0x00800000#32
  let main_v90 : FVec F S11x1024x96 .f32 := broadcastInDim S11x1024x96 ![] bcast_S_S11x1024x96 main_cst_18
  let main_v91 : IVec S11x1024x96 1 := cmpf .oge main_v70 main_v90
  let main_cst_19 : FVec F S_ .f32 := constant S_ .f32 0x7F7FFFFF#32
  let main_v92 : FVec F S11x1024x96 .f32 := broadcastInDim S11x1024x96 ![] bcast_S_S11x1024x96 main_cst_19
  let main_v93 : IVec S11x1024x96 1 := cmpf .ole main_v68 main_v92
  let main_v94 : IVec S11x1024x96 1 := andi main_v91 main_v93
  let main_cst_20 : FVec F S_ .f32 := constant S_ .f32 0x00000000#32
  let main_v95 : FVec F S11x1024x96 .f32 := broadcastInDim S11x1024x96 ![] bcast_S_S11x1024x96 main_cst_20
  let main_v96 : IVec S11x1024x96 1 := cmpf .oeq main_v68 main_v95
  fn_part5 (F := F) main_v64 main_v89 main_v94 main_v96

def fn_part3 {F : FTy → Type} [FloatOps F] (main_v30 : FVec F S11x3072x1024 .f32) (main_v33 : FVec F S11x3072x32 .f32) (main_v54 : IVec S11x3072x32x254 1) (main_v56 : IVec S11x3072x32 1) (main_v58 : IVec S11x3072x32 1) : IVec S11x3072x1024 1 × IVec S11x3072x32 1 × IVec S11x1024x3072 1 × IVec S11x1024x96 1 :=
  let main_v59 : IVec S11x3072x32 1 := andi main_v56 main_v58
  let main_cst_11 : FVec F S_ .f32 := constant S_ .f32 0x00000000#32
  let main_v60 : FVec F S11x3072x32 .f32 := broadcastInDim S11x3072x32 ![] bcast_S_S11x3072x32 main_cst_11
  let main_v61 : IVec S11x3072x32 1 := cmpf .oeq main_v33 main_v60
  let main_c_12 : IVec S_ 1 := constantI S_ 1 1#1
  let main_v62 : IVec S11x3072x32 1 := (fun x v => Host.reduce IntOp.andi x v reducesTo_S11x3072x32x254_S11x3072x32_d3 h_S_) main_v54 main_c_12
  let main_v63 : IVec S11x3072x32 1 := andi main_v59 main_v62
  let main_v64 : IVec S11x3072x32 1 := ori main_v61 main_v63
  let main_v65 : FVec F S11x1024x3072 .f32 := (transpose S11x1024x3072 [0, 2, 1] · transposes_S11x3072x1024_S11x1024x3072_0_2_1) main_v30
  let main_v66 : FVec F S11x1024x96x32 .f32 := shapeCast S11x1024x96x32 main_v65 shapeCasts_S11x1024x3072_S11x1024x96x32
  let main_v67 : FVec F S11x1024x96x32 .f32 := Host.absf main_v66
  let main_cst_13 : FVec F S_ .f32 := constant S_ .f32 0xFF800000#32
  let main_v68 : FVec F S11x1024x96 .f32 := (fun x v => Host.reduce FloatOps.maximumf x v reducesTo_S11x1024x96x32_S11x1024x96_d3 h_S_) main_v67 main_cst_13
  let main_cst_14 : FVec F S_ .f32 := constant S_ .f32 0x3B124925#32
  let main_v69 : FVec F S11x1024x96 .f32 := broadcastInDim S11x1024x96 ![] bcast_S_S11x1024x96 main_cst_14
  let main_v70 : FVec F S11x1024x96 .f32 := mulf main_v68 main_v69
  let main_v71 : IVec S254 32 := iotaInDim S254 32 0
  let main_c_15 : IVec S_ 32 := constantI S_ 32 4294967170#32
  let main_v72 : IVec S254 32 := broadcastInDim S254 ![] bcast_S_S254 main_c_15
  let main_v73 : IVec S254 32 := addi main_v72 main_v71
  let main_v74 : FVec F S254 .f32 := sitofp .f32 main_v73
  let main_cst_16 : FVec F S_ .f32 := constant S_ .f32 0x40000000#32
  let main_v75 : FVec F S254 .f32 := broadcastInDim S254 ![] bcast_S_S254 main_cst_16
  let main_v76 : FVec F S254 .f32 := Host.powf main_v75 main_v74
  fn_part4 (F := F) main_v64 main_v68 main_v70 main_v76

def fn_part2 {F : FTy → Type} [FloatOps F] (main_v30 : FVec F S11x3072x1024 .f32) (main_v33 : FVec F S11x3072x32 .f32) (main_v35 : FVec F S11x3072x32 .f32) (main_v38 : IVec S254 32) : IVec S11x3072x1024 1 × IVec S11x3072x32 1 × IVec S11x1024x3072 1 × IVec S11x1024x96 1 :=
  let main_v39 : FVec F S254 .f32 := sitofp .f32 main_v38
  let main_cst_7 : FVec F S_ .f32 := constant S_ .f32 0x40000000#32
  let main_v40 : FVec F S254 .f32 := broadcastInDim S254 ![] bcast_S_S254 main_cst_7
  let main_v41 : FVec F S254 .f32 := Host.powf main_v40 main_v39
  let main_v42 : FVec F S11x3072x32x1 .f32 := broadcastInDim S11x3072x32x1 ![0, 1, 2] bcast_S11x3072x32_S11x3072x32x1_0_1_2 main_v35
  let main_v43 : FVec F S1x1x1x254 .f32 := broadcastInDim S1x1x1x254 ![3] bcast_S254_S1x1x1x254_3 main_v41
  let main_v44 : FVec F S11x3072x32x254 .f32 := broadcastInDim S11x3072x32x254 ![0, 1, 2, 3] bcast_S11x3072x32x1_S11x3072x32x254_0_1_2_3 main_v42
  let main_v45 : FVec F S11x3072x32x254 .f32 := broadcastInDim S11x3072x32x254 ![0, 1, 2, 3] bcast_S1x1x1x254_S11x3072x32x254_0_1_2_3 main_v43
  let main_v46 : IVec S11x3072x32x254 1 := cmpf .oge main_v44 main_v45
  let main_v47 : FVec F S11x3072x32x1 .f32 := broadcastInDim S11x3072x32x1 ![0, 1, 2] bcast_S11x3072x32_S11x3072x32x1_0_1_2 main_v35
  let main_cst_8 : FVec F S_ .f32 := constant S_ .f32 0x3F7FFFFF#32
  let main_v48 : FVec F S254 .f32 := broadcastInDim S254 ![] bcast_S_S254 main_cst_8
  let main_v49 : FVec F S254 .f32 := mulf main_v41 main_v48
  let main_v50 : FVec F S1x1x1x254 .f32 := broadcastInDim S1x1x1x254 ![3] bcast_S254_S1x1x1x254_3 main_v49
  let main_v51 : FVec F S11x3072x32x254 .f32 := broadcastInDim S11x3072x32x254 ![0, 1, 2, 3] bcast_S11x3072x32x1_S11x3072x32x254_0_1_2_3 main_v47
  let main_v52 : FVec F S11x3072x32x254 .f32 := broadcastInDim S11x3072x32x254 ![0, 1, 2, 3] bcast_S1x1x1x254_S11x3072x32x254_0_1_2_3 main_v50
  let main_v53 : IVec S11x3072x32x254 1 := cmpf .ogt main_v51 main_v52
  let main_v54 : IVec S11x3072x32x254 1 := cmpi .eq main_v46 main_v53
  let main_cst_9 : FVec F S_ .f32 := constant S_ .f32 0x00800000#32
  let main_v55 : FVec F S11x3072x32 .f32 := broadcastInDim S11x3072x32 ![] bcast_S_S11x3072x32 main_cst_9
  let main_v56 : IVec S11x3072x32 1 := cmpf .oge main_v35 main_v55
  let main_cst_10 : FVec F S_ .f32 := constant S_ .f32 0x7F7FFFFF#32
  let main_v57 : FVec F S11x3072x32 .f32 := broadcastInDim S11x3072x32 ![] bcast_S_S11x3072x32 main_cst_10
  let main_v58 : IVec S11x3072x32 1 := cmpf .ole main_v33 main_v57
  fn_part3 (F := F) main_v30 main_v33 main_v54 main_v56 main_v58

def fn_part1 {F : FTy → Type} [FloatOps F] (main_arg2 : FVec F S11x3072x1024 .f32) (main_v3 : FVec F S_ .f32) (main_v5 : FVec F S_ .f32) (main_v12 : FVec F S11x3072x1024 .f32) (main_v18 : FVec F S11x3072x1024 .f32) (main_cst_3 : FVec F S_ .f32) : IVec S11x3072x1024 1 × IVec S11x3072x32 1 × IVec S11x1024x3072 1 × IVec S11x1024x96 1 :=
  let main_v19 : FVec F S11x3072x1024 .f32 := broadcastInDim S11x3072x1024 ![] bcast_S_S11x3072x1024 main_cst_3
  let main_v20 : FVec F S11x3072x1024 .f32 := mulf main_v19 main_arg2
  let main_v21 : FVec F S11x3072x1024 .f32 := broadcastInDim S11x3072x1024 ![] bcast_S_S11x3072x1024 main_v3
  let main_v22 : FVec F S11x3072x1024 .f32 := mulf main_v21 main_v12
  let main_v23 : FVec F S11x3072x1024 .f32 := Host.sqrt main_v18
  let main_v24 : FVec F S11x3072x1024 .f32 := broadcastInDim S11x3072x1024 ![] bcast_S_S11x3072x1024 main_v5
  let main_v25 : FVec F S11x3072x1024 .f32 := mulf main_v23 main_v24
  let main_cst_4 : FVec F S_ .f32 := constant S_ .f32 0x322BCC77#32
  let main_v26 : FVec F S11x3072x1024 .f32 := broadcastInDim S11x3072x1024 ![] bcast_S_S11x3072x1024 main_cst_4
  let main_v27 : FVec F S11x3072x1024 .f32 := addf main_v25 main_v26
  let main_v28 : FVec F S11x3072x1024 .f32 := Host.divf main_v22 main_v27
  let main_v29 : FVec F S11x3072x1024 .f32 := subf main_v20 main_v28
  let main_v30 : FVec F S11x3072x1024 .f32 := addf main_arg2 main_v29
  let main_v31 : FVec F S11x3072x32x32 .f32 := shapeCast S11x3072x32x32 main_v30 shapeCasts_S11x3072x1024_S11x3072x32x32
  let main_v32 : FVec F S11x3072x32x32 .f32 := Host.absf main_v31
  let main_cst_5 : FVec F S_ .f32 := constant S_ .f32 0xFF800000#32
  let main_v33 : FVec F S11x3072x32 .f32 := (fun x v => Host.reduce FloatOps.maximumf x v reducesTo_S11x3072x32x32_S11x3072x32_d3 h_S_) main_v32 main_cst_5
  let main_cst_6 : FVec F S_ .f32 := constant S_ .f32 0x3B124925#32
  let main_v34 : FVec F S11x3072x32 .f32 := broadcastInDim S11x3072x32 ![] bcast_S_S11x3072x32 main_cst_6
  let main_v35 : FVec F S11x3072x32 .f32 := mulf main_v33 main_v34
  let main_v36 : IVec S254 32 := iotaInDim S254 32 0
  let main_c : IVec S_ 32 := constantI S_ 32 4294967170#32
  let main_v37 : IVec S254 32 := broadcastInDim S254 ![] bcast_S_S254 main_c
  let main_v38 : IVec S254 32 := addi main_v37 main_v36
  fn_part2 (F := F) main_v30 main_v33 main_v35 main_v38

def fn {F : FTy → Type} [FloatOps F] (main_arg0 : FVec F S3 .f32) (main_arg1 : FVec F S11x3072x1024 .f32) (main_arg2 : FVec F S11x3072x1024 .f32) (main_arg3 : FVec F S11x3072x1024 .f32) (main_arg4 : FVec F S11x3072x1024 .f32) : IVec S11x3072x1024 1 × IVec S11x3072x32 1 × IVec S11x1024x3072 1 × IVec S11x1024x96 1 :=
  let main_v0 : FVec F S1 .f32 := (extractStridedSlice S1 ![0] · slices_S3_S1_0) main_arg0
  let main_v1 : FVec F S_ .f32 := shapeCast S_ main_v0 shapeCasts_S1_S_
  let main_v2 : FVec F S1 .f32 := (extractStridedSlice S1 ![1] · slices_S3_S1_1) main_arg0
  let main_v3 : FVec F S_ .f32 := shapeCast S_ main_v2 shapeCasts_S1_S_
  let main_v4 : FVec F S1 .f32 := (extractStridedSlice S1 ![2] · slices_S3_S1_2) main_arg0
  let main_v5 : FVec F S_ .f32 := shapeCast S_ main_v4 shapeCasts_S1_S_
  let main_v6 : FVec F S11x3072x1024 .f32 := broadcastInDim S11x3072x1024 ![] bcast_S_S11x3072x1024 main_v1
  let main_v7 : FVec F S11x3072x1024 .f32 := mulf main_arg1 main_v6
  let main_cst : FVec F S_ .f32 := constant S_ .f32 0x3F666666#32
  let main_v8 : FVec F S11x3072x1024 .f32 := broadcastInDim S11x3072x1024 ![] bcast_S_S11x3072x1024 main_cst
  let main_v9 : FVec F S11x3072x1024 .f32 := mulf main_v8 main_arg3
  let main_cst_0 : FVec F S_ .f32 := constant S_ .f32 0x3DCCCCCD#32
  let main_v10 : FVec F S11x3072x1024 .f32 := broadcastInDim S11x3072x1024 ![] bcast_S_S11x3072x1024 main_cst_0
  let main_v11 : FVec F S11x3072x1024 .f32 := mulf main_v10 main_v7
  let main_v12 : FVec F S11x3072x1024 .f32 := addf main_v9 main_v11
  let main_cst_1 : FVec F S_ .f32 := constant S_ .f32 0x3F733333#32
  let main_v13 : FVec F S11x3072x1024 .f32 := broadcastInDim S11x3072x1024 ![] bcast_S_S11x3072x1024 main_cst_1
  let main_v14 : FVec F S11x3072x1024 .f32 := mulf main_v13 main_arg4
  let main_cst_2 : FVec F S_ .f32 := constant S_ .f32 0x3D4CCCCD#32
  let main_v15 : FVec F S11x3072x1024 .f32 := broadcastInDim S11x3072x1024 ![] bcast_S_S11x3072x1024 main_cst_2
  let main_v16 : FVec F S11x3072x1024 .f32 := mulf main_v15 main_v7
  let main_v17 : FVec F S11x3072x1024 .f32 := mulf main_v16 main_v7
  let main_v18 : FVec F S11x3072x1024 .f32 := addf main_v14 main_v17
  let main_cst_3 : FVec F S_ .f32 := constant S_ .f32 0xB8D1B717#32
  fn_part1 (F := F) main_arg2 main_v3 main_v5 main_v12 main_v18 main_cst_3
-- ==== Pre_first_step_taken.lean ====
abbrev S11x4x2048x1024 : Shape := ⟨4, ![11, 4, 2048, 1024]⟩
abbrev S11x4 : Shape := ⟨2, ![11, 4]⟩
abbrev S11x4x2048x3072 : Shape := ⟨4, ![11, 4, 2048, 3072]⟩
abbrev S11x3072x1024 : Shape := ⟨3, ![11, 3072, 1024]⟩
abbrev S_ : Shape := ⟨0, ![]⟩
abbrev S11x16 : Shape := ⟨2, ![11, 16]⟩

class Facts : Prop where

variable [Facts]

def fn {F : FTy → Type} [FloatOps F] (main_arg0 : FVec F S11x4x2048x1024 .fp8e4m3) (main_arg1 : FVec F S11x4 .f32) (main_arg2 : FVec F S11x4x2048x3072 .fp8e5m2) (main_arg3 : FVec F S11x4 .f32) (main_arg4 : FVec F S11x3072x1024 .f32) (main_arg5 : FVec F S11x3072x1024 .f32) (main_arg6 : FVec F S11x3072x1024 .f32) (main_arg7 : FVec F S11x3072x1024 .f32) (main_arg8 : IVec S_ 32) (main_arg9 : FVec F S_ .f32) (main_arg10 : FVec F S11x16 .f32) : IVec S_ 1 :=
  let main_c : IVec S_ 32 := constantI S_ 32 0#32
  let main_v0 : IVec S_ 1 := cmpi .ne main_arg8 main_c
  main_v0
-- ==== Kernel.lean ====
abbrev S11x4x2048x1024 : Shape := ⟨4, ![11, 4, 2048, 1024]⟩
abbrev S11x4 : Shape := ⟨2, ![11, 4]⟩
abbrev S11x4x2048x3072 : Shape := ⟨4, ![11, 4, 2048, 3072]⟩
abbrev S11x3072x1024 : Shape := ⟨3, ![11, 3072, 1024]⟩
abbrev S_ : Shape := ⟨0, ![]⟩
abbrev S11x16 : Shape := ⟨2, ![11, 16]⟩
abbrev S8x1024 : Shape := ⟨2, ![8, 1024]⟩
abbrev S1x4x2048x1024 : Shape := ⟨4, ![1, 4, 2048, 1024]⟩
abbrev S1x4x2048x512 : Shape := ⟨4, ![1, 4, 2048, 512]⟩
abbrev S1x512x1024 : Shape := ⟨3, ![1, 512, 1024]⟩
abbrev S1x1 : Shape := ⟨2, ![1, 1]⟩
abbrev S1x1x2048x512 : Shape := ⟨4, ![1, 1, 2048, 512]⟩
abbrev S2048x512 : Shape := ⟨2, ![2048, 512]⟩
abbrev S1x1x2048x1024 : Shape := ⟨4, ![1, 1, 2048, 1024]⟩
abbrev S2048x1024 : Shape := ⟨2, ![2048, 1024]⟩
abbrev S512x1024 : Shape := ⟨2, ![512, 1024]⟩
abbrev S64x8x1024 : Shape := ⟨3, ![64, 8, 1024]⟩
abbrev S1 : Shape := ⟨1, ![1]⟩
abbrev S3 : Shape := ⟨1, ![3]⟩
abbrev S11x3072x32 : Shape := ⟨3, ![11, 3072, 32]⟩
abbrev S11x1024x3072 : Shape := ⟨3, ![11, 1024, 3072]⟩
abbrev S11x12x8x1024 : Shape := ⟨4, ![11, 12, 8, 1024]⟩
abbrev S11x8x1024 : Shape := ⟨3, ![11, 8, 1024]⟩
abbrev S1x256x1024 : Shape := ⟨3, ![1, 256, 1024]⟩
abbrev S1x256x32 : Shape := ⟨3, ![1, 256, 32]⟩
abbrev S1x1024x256 : Shape := ⟨3, ![1, 1024, 256]⟩
abbrev S1x1x8x1024 : Shape := ⟨4, ![1, 1, 8, 1024]⟩
abbrev S1x8x1024 : Shape := ⟨3, ![1, 8, 1024]⟩
abbrev S256x1024 : Shape := ⟨2, ![256, 1024]⟩
abbrev S32x8x1024 : Shape := ⟨3, ![32, 8, 1024]⟩
abbrev S8x32x1024 : Shape := ⟨3, ![8, 32, 1024]⟩
abbrev S8x1x1024 : Shape := ⟨3, ![8, 1, 1024]⟩
abbrev S1024x256 : Shape := ⟨2, ![1024, 256]⟩
abbrev S32x32x256 : Shape := ⟨3, ![32, 32, 256]⟩
abbrev S32x256 : Shape := ⟨2, ![32, 256]⟩
abbrev S32x1x256 : Shape := ⟨3, ![32, 1, 256]⟩
abbrev S256x32 : Shape := ⟨2, ![256, 32]⟩
abbrev S11x96x1024 : Shape := ⟨3, ![11, 96, 1024]⟩
abbrev S11x1024x96 : Shape := ⟨3, ![11, 1024, 96]⟩
abbrev S11 : Shape := ⟨1, ![11]⟩
abbrev S11x1 : Shape := ⟨2, ![11, 1]⟩
abbrev S11x15 : Shape := ⟨2, ![11, 15]⟩

abbrev nBuf : Space → Nat
  | .hbm => 56
  | .vmem => 35
  | .smem => 3
  | _ => 0

abbrev bufTy : (tb : Table) → Fin (tcTables nBuf tb) → BufTy
  | .hbm, ⟨0, _⟩ => ⟨S11x4x2048x1024, .fp8e4m3⟩
  | .hbm, ⟨1, _⟩ => ⟨S11x4, .f32⟩
  | .hbm, ⟨2, _⟩ => ⟨S11x4x2048x3072, .fp8e5m2⟩
  | .hbm, ⟨3, _⟩ => ⟨S11x4, .f32⟩
  | .hbm, ⟨4, _⟩ => ⟨S11x3072x1024, .f32⟩
  | .hbm, ⟨5, _⟩ => ⟨S11x3072x1024, .f32⟩
  | .hbm, ⟨6, _⟩ => ⟨S11x3072x1024, .f32⟩
  | .hbm, ⟨7, _⟩ => ⟨S11x3072x1024, .f32⟩
  | .hbm, ⟨8, _⟩ => ⟨S_, .i32⟩
  | .hbm, ⟨9, _⟩ => ⟨S_, .f32⟩
  | .hbm, ⟨10, _⟩ => ⟨S11x16, .f32⟩
  | .hbm, ⟨11, _⟩ => ⟨S11x3072x1024, .f32⟩
  | .hbm, ⟨12, _⟩ => ⟨S8x1024, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S1, .f32⟩
  | .hbm, ⟨36, _⟩ => ⟨S1, .f32⟩
  | .hbm, ⟨37, _⟩ => ⟨S1, .f32⟩
  | .hbm, ⟨38, _⟩ => ⟨S3, .f32⟩
  | .hbm, ⟨39, _⟩ => ⟨S11x3072x1024, .f32⟩
  | .hbm, ⟨40, _⟩ => ⟨S11x3072x1024, .f32⟩
  | .hbm, ⟨41, _⟩ => ⟨S11x3072x1024, .f32⟩
  | .hbm, ⟨42, _⟩ => ⟨S11x3072x1024, .f32⟩
  | .hbm, ⟨43, _⟩ => ⟨S11x3072x1024, .fp8e4m3⟩
  | .hbm, ⟨44, _⟩ => ⟨S11x3072x32, .i8⟩
  | .hbm, ⟨45, _⟩ => ⟨S11x1024x3072, .fp8e4m3⟩
  | .hbm, ⟨46, _⟩ => ⟨S11x12x8x1024, .i32⟩
  | .hbm, ⟨47, _⟩ => ⟨S11x8x1024, .f32⟩
  | .hbm, ⟨48, _⟩ => ⟨S11x96x1024, .i32⟩
  | .hbm, ⟨49, _⟩ => ⟨S11x1024x96, .i32⟩
  | .hbm, ⟨50, _⟩ => ⟨S11x1024x96, .i8⟩
  | .hbm, ⟨51, _⟩ => ⟨S_, .f32⟩
  | .hbm, ⟨52, _⟩ => ⟨S11, .f32⟩
  | .hbm, ⟨53, _⟩ => ⟨S11x1, .f32⟩
  | .hbm, ⟨54, _⟩ => ⟨S11x15, .f32⟩
  | .hbm, ⟨55, _⟩ => ⟨S11x16, .f32⟩
  | .local _ .vmem, ⟨0, _⟩ => ⟨S1x4x2048x1024, .fp8e4m3⟩
  | .local _ .vmem, ⟨1, _⟩ => ⟨S1x4x2048x1024, .fp8e4m3⟩
  | .local _ .vmem, ⟨2, _⟩ => ⟨S1x4x2048x512, .fp8e5m2⟩
  | .local _ .vmem, ⟨3, _⟩ => ⟨S1x4x2048x512, .fp8e5m2⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S8x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | .local _ .vmem, ⟨22, _⟩ => ⟨S1x256x1024, .f32⟩
  | .local _ .vmem, ⟨23, _⟩ => ⟨S1x256x1024, .f32⟩
  | .local _ .vmem, ⟨24, _⟩ => ⟨S1x256x1024, .f32⟩
  | .local _ .vmem, ⟨25, _⟩ => ⟨S1x256x1024, .fp8e4m3⟩
  | .local _ .vmem, ⟨26, _⟩ => ⟨S1x256x1024, .fp8e4m3⟩
  | .local _ .vmem, ⟨27, _⟩ => ⟨S1x256x32, .i8⟩
  | .local _ .vmem, ⟨28, _⟩ => ⟨S1x256x32, .i8⟩
  | .local _ .vmem, ⟨29, _⟩ => ⟨S1x1024x256, .fp8e4m3⟩
  | .local _ .vmem, ⟨30, _⟩ => ⟨S1x1024x256, .fp8e4m3⟩
  | .local _ .vmem, ⟨31, _⟩ => ⟨S1x1x8x1024, .i32⟩
  | .local _ .vmem, ⟨32, _⟩ => ⟨S1x1x8x1024, .i32⟩
  | .local _ .vmem, ⟨33, _⟩ => ⟨S1x8x1024, .f32⟩
  | .local _ .vmem, ⟨34, _⟩ => ⟨S1x8x1024, .f32⟩
  | .local _ .smem, ⟨0, _⟩ => ⟨S11x4, .f32⟩
  | .local _ .smem, ⟨1, _⟩ => ⟨S11x4, .f32⟩
  | .local _ .smem, ⟨2, _⟩ => ⟨S3, .f32⟩
  | _, _ => ⟨S11x4x2048x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_cst_3 : Ref sig .tc := ⟨.hbm, 24, rfl⟩
abbrev main_v8 : Ref sig .tc := ⟨.hbm, 25, rfl⟩
abbrev main_cst_4 : Ref sig .tc := ⟨.hbm, 26, rfl⟩
abbrev main_v9 : Ref sig .tc := ⟨.hbm, 27, rfl⟩
abbrev main_cst_5 : Ref sig .tc := ⟨.hbm, 28, rfl⟩
abbrev main_v10 : Ref sig .tc := ⟨.hbm, 29, rfl⟩
abbrev main_cst_6 : Ref sig .tc := ⟨.hbm, 30, rfl⟩
abbrev main_v11 : Ref sig .tc := ⟨.hbm, 31, rfl⟩
abbrev main_v12 : Ref sig .tc := ⟨.hbm, 32, rfl⟩
abbrev main_cst_7 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18_0 : Ref sig .tc := ⟨.hbm, 39, rfl⟩
abbrev main_v18_1 : Ref sig .tc := ⟨.hbm, 40, rfl⟩
abbrev main_v18_2 : Ref sig .tc := ⟨.hbm, 41, rfl⟩
abbrev main_v18_3 : Ref sig .tc := ⟨.hbm, 42, rfl⟩
abbrev main_v18_4 : Ref sig .tc := ⟨.hbm, 43, rfl⟩
abbrev main_v18_5 : Ref sig .tc := ⟨.hbm, 44, rfl⟩
abbrev main_v18_6 : Ref sig .tc := ⟨.hbm, 45, rfl⟩
abbrev main_v18_7 : Ref sig .tc := ⟨.hbm, 46, rfl⟩
abbrev main_v18_8 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_8 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg8_1 : Ref sig .tc := ⟨.vmem, 24, rfl⟩
abbrev cc1_stg9_0 : Ref sig .tc := ⟨.vmem, 25, rfl⟩
abbrev cc1_stg9_1 : Ref sig .tc := ⟨.vmem, 26, rfl⟩
abbrev cc1_stg10_0 : Ref sig .tc := ⟨.vmem, 27, rfl⟩
abbrev cc1_stg10_1 : Ref sig .tc := ⟨.vmem, 28, rfl⟩
abbrev cc1_stg11_0 : Ref sig .tc := ⟨.vmem, 29, rfl⟩
abbrev cc1_stg11_1 : Ref sig .tc := ⟨.vmem, 30, rfl⟩
abbrev cc1_stg12_0 : Ref sig .tc := ⟨.vmem, 31, rfl⟩
abbrev cc1_stg12_1 : Ref sig .tc := ⟨.vmem, 32, rfl⟩
abbrev cc1_stg13_0 : Ref sig .tc := ⟨.vmem, 33, rfl⟩
abbrev cc1_stg13_1 : Ref sig .tc := ⟨.vmem, 34, rfl⟩
abbrev cc0_stg0_0 : Ref sig .tc := ⟨.smem, 0, rfl⟩
abbrev cc0_stg1_0 : Ref sig .tc := ⟨.smem, 1, rfl⟩
abbrev cc1_stg0_0 : Ref sig .tc := ⟨.smem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc1_sem0_0 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29
abbrev cc1_sem10_0 : DmaSem sig := 30
abbrev cc1_sem10_1 : DmaSem sig := 31
abbrev cc1_sem11_0 : DmaSem sig := 32
abbrev cc1_sem11_1 : DmaSem sig := 33
abbrev cc1_sem12_0 : DmaSem sig := 34
abbrev cc1_sem12_1 : DmaSem sig := 35
abbrev cc1_sem13_0 : DmaSem sig := 36
abbrev cc1_sem13_1 : DmaSem sig := 37

abbrev nD : Nat := 1
abbrev τ : Topo := Topo.v7x

variable {F : FTy → Type} [FloatOps F]

abbrev grid0 : Pipeline.Grid := ⟨2, ![11, 6], ![false, false]⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v14 : Index := Scalar.indexCast arg0
  let c1 : Index := 1#32
  ![v14.toNat, 1]
def k0_off3 (i : grid0.Coords) : Fin 2 → Nat :=
  let arg0 : BitVec 32 := BitVec.ofNat 32 (i 0).val
  let v29 : Index := Scalar.indexCast arg0
  let c2 : Index := 2#32
  ![v29.toNat, 2]
def k0_off4 (i : grid0.Coords) : Fin 2 → Nat :=
  let arg0 : BitVec 32 := BitVec.ofNat 32 (i 0).val
  let v44 : Index := Scalar.indexCast arg0
  let c3 : Index := 3#32
  ![v44.toNat, 3]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S11x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S11x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x4x2048x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x2048x512 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev grid1 : Pipeline.Grid := ⟨2, ![11, 12], ![false, false]⟩

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_12 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_13 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .smem S3 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x256x1024 .fp8e4m3 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x256x32 .i8 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x1024x256 .fp8e4m3 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1x1x8x1024 .i32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S1x8x1024 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, false]
-- ==== ReferenceIdeal.lean ====
abbrev S11x4x2048x1024 : Shape := ⟨4, ![11, 4, 2048, 1024]⟩
abbrev S11x4 : Shape := ⟨2, ![11, 4]⟩
abbrev S11x4x2048x3072 : Shape := ⟨4, ![11, 4, 2048, 3072]⟩
abbrev S11x3072x1024 : Shape := ⟨3, ![11, 3072, 1024]⟩
abbrev S_ : Shape := ⟨0, ![]⟩
abbrev S11x16 : Shape := ⟨2, ![11, 16]⟩
abbrev S11x4x1x1 : Shape := ⟨4, ![11, 4, 1, 1]⟩
abbrev S11 : Shape := ⟨1, ![11]⟩
abbrev S11x1 : Shape := ⟨2, ![11, 1]⟩
abbrev S11x15 : Shape := ⟨2, ![11, 15]⟩

abbrev nBuf : Space → Nat
  | .hbm => 81
  | .vmem => 4
  | .smem => 0
  | _ => 0

abbrev bufTy : (tb : Table) → Fin (tcTables nBuf tb) → BufTy
  | .hbm, ⟨0, _⟩ => ⟨S11x4x2048x1024, .fp8e4m3⟩
  | .hbm, ⟨1, _⟩ => ⟨S11x4, .f32⟩
  | .hbm, ⟨2, _⟩ => ⟨S11x4x2048x3072, .fp8e5m2⟩
  | .hbm, ⟨3, _⟩ => ⟨S11x4, .f32⟩
  | .hbm, ⟨4, _⟩ => ⟨S11x3072x1024, .f32⟩
  | .hbm, ⟨5, _⟩ => ⟨S11x3072x1024, .f32⟩
  | .hbm, ⟨6, _⟩ => ⟨S11x3072x1024, .f32⟩
  | .hbm, ⟨7, _⟩ => ⟨S11x3072x1024, .f32⟩
  | .hbm, ⟨8, _⟩ => ⟨S_, .i32⟩
  | .hbm, ⟨9, _⟩ => ⟨S_, .f32⟩
  | .hbm, ⟨10, _⟩ => ⟨S11x16, .f32⟩
  | .hbm, ⟨11, _⟩ => ⟨S11x4x2048x1024, .bf16⟩
  | .hbm, ⟨12, _⟩ => ⟨S11x4x2048x3072, .bf16⟩
  | .hbm, ⟨13, _⟩ => ⟨S11x4, .bf16⟩
  | .hbm, ⟨14, _⟩ => ⟨S11x4x1x1, .bf16⟩
  | .hbm, ⟨15, _⟩ => ⟨S11x4x2048x1024, .bf16⟩
  | .hbm, ⟨16, _⟩ => ⟨S11x4x2048x1024, .bf16⟩
  | .hbm, ⟨17, _⟩ => ⟨S11x4, .bf16⟩
  | .hbm, ⟨18, _⟩ => ⟨S11x4x1x1, .bf16⟩
  | .hbm, ⟨19, _⟩ => ⟨S11x4x2048x3072, .bf16⟩
  | .hbm, ⟨20, _⟩ => ⟨S11x4x2048x3072, .bf16⟩
  | .hbm, ⟨21, _⟩ => ⟨S11x3072x1024, .f32⟩
  | .hbm, ⟨22, _⟩ => ⟨S11x3072x1024, .f32⟩
  | .hbm, ⟨23, _⟩ => ⟨S11x3072x1024, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S11x3072x1024, .f32⟩
  | .hbm, ⟨33, _⟩ => ⟨S11x3072x1024, .f32⟩
  | .hbm, ⟨34, _⟩ => ⟨S_, .f32⟩
  | .hbm, ⟨35, _⟩ => ⟨S11x3072x1024, .f32⟩
  | .hbm, ⟨36, _⟩ => ⟨S11x3072x1024, .f32⟩
  | .hbm, ⟨37, _⟩ => ⟨S_, .f32⟩
  | .hbm, ⟨38, _⟩ => ⟨S11x3072x1024, .f32⟩
  | .hbm, ⟨39, _⟩ => ⟨S11x3072x1024, .f32⟩
  | .hbm, ⟨40, _⟩ => ⟨S11x3072x1024, .f32⟩
  | .hbm, ⟨41, _⟩ => ⟨S_, .f32⟩
  | .hbm, ⟨42, _⟩ => ⟨S11x3072x1024, .f32⟩
  | .hbm, ⟨43, _⟩ => ⟨S11x3072x1024, .f32⟩
  | .hbm, ⟨44, _⟩ => ⟨S_, .f32⟩
  | .hbm, ⟨45, _⟩ => ⟨S11x3072x1024, .f32⟩
  | .hbm, ⟨46, _⟩ => ⟨S11x3072x1024, .f32⟩
  | .hbm, ⟨47, _⟩ => ⟨S11x3072x1024, .f32⟩
  | .hbm, ⟨48, _⟩ => ⟨S11x3072x1024, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S11x3072x1024, .f32⟩
  | .hbm, ⟨60, _⟩ => ⟨S11x3072x1024, .f32⟩
  | .hbm, ⟨61, _⟩ => ⟨S_, .f32⟩
  | .hbm, ⟨62, _⟩ => ⟨S_, .f32⟩
  | .hbm, ⟨63, _⟩ => ⟨S11x3072x1024, .f32⟩
  | .hbm, ⟨64, _⟩ => ⟨S11x3072x1024, .f32⟩
  | .hbm, ⟨65, _⟩ => ⟨S11x3072x1024, .f32⟩
  | .hbm, ⟨66, _⟩ => ⟨S_, .f32⟩
  | .hbm, ⟨67, _⟩ => ⟨S11x3072x1024, .f32⟩
  | .hbm, ⟨68, _⟩ => ⟨S11x3072x1024, .f32⟩
  | .hbm, ⟨69, _⟩ => ⟨S_, .f32⟩
  | .hbm, ⟨70, _⟩ => ⟨S11x3072x1024, .f32⟩
  | .hbm, ⟨71, _⟩ => ⟨S11x3072x1024, .f32⟩
  | .hbm, ⟨72, _⟩ => ⟨S11x3072x1024, .f32⟩
  | .hbm, ⟨73, _⟩ => ⟨S11x3072x1024, .f32⟩
  | .hbm, ⟨74, _⟩ => ⟨S11x3072x1024, .f32⟩
  | .hbm, ⟨75, _⟩ => ⟨S11x3072x1024, .f32⟩
  | .hbm, ⟨76, _⟩ => ⟨S_, .f32⟩
  | .hbm, ⟨77, _⟩ => ⟨S11, .f32⟩
  | .hbm, ⟨78, _⟩ => ⟨S11x1, .f32⟩
  | .hbm, ⟨79, _⟩ => ⟨S11x15, .f32⟩
  | .hbm, ⟨80, _⟩ => ⟨S11x16, .f32⟩
  | .local _ .vmem, ⟨0, _⟩ => ⟨S11x4x2048x1024, .fp8e4m3⟩
  | .local _ .vmem, ⟨1, _⟩ => ⟨S11x4x2048x3072, .fp8e5m2⟩
  | .local _ .vmem, ⟨2, _⟩ => ⟨S11x4x2048x1024, .bf16⟩
  | .local _ .vmem, ⟨3, _⟩ => ⟨S11x4x2048x3072, .bf16⟩
  | _, _ => ⟨S11x4x2048x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_cst_8 : Ref sig .tc := ⟨.hbm, 54, rfl⟩
abbrev main_v33 : Ref sig .tc := ⟨.hbm, 55, rfl⟩
abbrev main_cst_9 : Ref sig .tc := ⟨.hbm, 56, rfl⟩
abbrev main_v34 : Ref sig .tc := ⟨.hbm, 57, rfl⟩
abbrev main_cst_10 : Ref sig .tc := ⟨.hbm, 58, rfl⟩
abbrev main_v35 : Ref sig .tc := ⟨.hbm, 59, rfl⟩
abbrev main_v36 : Ref sig .tc := ⟨.hbm, 60, rfl⟩
abbrev main_cst_11 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_12 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_13 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S11x4x2048x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S11x4x2048x3072 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S11x4x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S11x4x2048x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Update.lean ====
abbrev S3 : Shape := ⟨1, ![3]⟩
abbrev S11x3072x1024 : Shape := ⟨3, ![11, 3072, 1024]⟩
abbrev S11x3072x32 : Shape := ⟨3, ![11, 3072, 32]⟩
abbrev S11x1024x3072 : Shape := ⟨3, ![11, 1024, 3072]⟩
abbrev S11x12x8x1024 : Shape := ⟨4, ![11, 12, 8, 1024]⟩
abbrev S11x8x1024 : Shape := ⟨3, ![11, 8, 1024]⟩
abbrev S1x256x1024 : Shape := ⟨3, ![1, 256, 1024]⟩
abbrev S1x256x32 : Shape := ⟨3, ![1, 256, 32]⟩
abbrev S1x1024x256 : Shape := ⟨3, ![1, 1024, 256]⟩
abbrev S1x1x8x1024 : Shape := ⟨4, ![1, 1, 8, 1024]⟩
abbrev S1x8x1024 : Shape := ⟨3, ![1, 8, 1024]⟩
abbrev S1 : Shape := ⟨1, ![1]⟩
abbrev S256x1024 : Shape := ⟨2, ![256, 1024]⟩
abbrev S32x8x1024 : Shape := ⟨3, ![32, 8, 1024]⟩
abbrev S8x1024 : Shape := ⟨2, ![8, 1024]⟩
abbrev S8x32x1024 : Shape := ⟨3, ![8, 32, 1024]⟩
abbrev S8x1x1024 : Shape := ⟨3, ![8, 1, 1024]⟩
abbrev S1024x256 : Shape := ⟨2, ![1024, 256]⟩
abbrev S32x32x256 : Shape := ⟨3, ![32, 32, 256]⟩
abbrev S32x256 : Shape := ⟨2, ![32, 256]⟩
abbrev S32x1x256 : Shape := ⟨3, ![32, 1, 256]⟩
abbrev S256x32 : Shape := ⟨2, ![256, 32]⟩
abbrev S11x96x1024 : Shape := ⟨3, ![11, 96, 1024]⟩
abbrev S11x1024x96 : Shape := ⟨3, ![11, 1024, 96]⟩

abbrev nBuf : Space → Nat
  | .hbm => 17
  | .vmem => 26
  | .smem => 1
  | _ => 0

abbrev bufTy : (tb : Table) → Fin (tcTables nBuf tb) → BufTy
  | .hbm, ⟨0, _⟩ => ⟨S3, .f32⟩
  | .hbm, ⟨1, _⟩ => ⟨S11x3072x1024, .f32⟩
  | .hbm, ⟨2, _⟩ => ⟨S11x3072x1024, .f32⟩
  | .hbm, ⟨3, _⟩ => ⟨S11x3072x1024, .f32⟩
  | .hbm, ⟨4, _⟩ => ⟨S11x3072x1024, .f32⟩
  | .hbm, ⟨5, _⟩ => ⟨S11x3072x1024, .f32⟩
  | .hbm, ⟨6, _⟩ => ⟨S11x3072x1024, .f32⟩
  | .hbm, ⟨7, _⟩ => ⟨S11x3072x1024, .f32⟩
  | .hbm, ⟨8, _⟩ => ⟨S11x3072x1024, .f32⟩
  | .hbm, ⟨9, _⟩ => ⟨S11x3072x1024, .fp8e4m3⟩
  | .hbm, ⟨10, _⟩ => ⟨S11x3072x32, .i8⟩
  | .hbm, ⟨11, _⟩ => ⟨S11x1024x3072, .fp8e4m3⟩
  | .hbm, ⟨12, _⟩ => ⟨S11x12x8x1024, .i32⟩
  | .hbm, ⟨13, _⟩ => ⟨S11x8x1024, .f32⟩
  | .hbm, ⟨14, _⟩ => ⟨S11x96x1024, .i32⟩
  | .hbm, ⟨15, _⟩ => ⟨S11x1024x96, .i32⟩
  | .hbm, ⟨16, _⟩ => ⟨S11x1024x96, .i8⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .fp8e4m3⟩
  | .local _ .vmem, ⟨17, _⟩ => ⟨S1x256x1024, .fp8e4m3⟩
  | .local _ .vmem, ⟨18, _⟩ => ⟨S1x256x32, .i8⟩
  | .local _ .vmem, ⟨19, _⟩ => ⟨S1x256x32, .i8⟩
  | .local _ .vmem, ⟨20, _⟩ => ⟨S1x1024x256, .fp8e4m3⟩
  | .local _ .vmem, ⟨21, _⟩ => ⟨S1x1024x256, .fp8e4m3⟩
  | .local _ .vmem, ⟨22, _⟩ => ⟨S1x1x8x1024, .i32⟩
  | .local _ .vmem, ⟨23, _⟩ => ⟨S1x1x8x1024, .i32⟩
  | .local _ .vmem, ⟨24, _⟩ => ⟨S1x8x1024, .f32⟩
  | .local _ .vmem, ⟨25, _⟩ => ⟨S1x8x1024, .f32⟩
  | .local _ .smem, ⟨0, _⟩ => ⟨S3, .f32⟩
  | _, _ => ⟨S3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev main_v0_7 : Ref sig .tc := ⟨.hbm, 12, rfl⟩
abbrev main_v0_8 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![11, 12], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x32 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x256 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x8x1024 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== UpdateReferenceIdeal.lean ====
abbrev S3 : Shape := ⟨1, ![3]⟩
abbrev S11x3072x1024 : Shape := ⟨3, ![11, 3072, 1024]⟩
abbrev S1 : Shape := ⟨1, ![1]⟩
abbrev S_ : Shape := ⟨0, ![]⟩
abbrev S11x3072x32x32 : Shape := ⟨4, ![11, 3072, 32, 32]⟩
abbrev S11x3072x32 : Shape := ⟨3, ![11, 3072, 32]⟩
abbrev S11x3072x32x1 : Shape := ⟨4, ![11, 3072, 32, 1]⟩
abbrev S254 : Shape := ⟨1, ![254]⟩
abbrev S1x1x1x254 : Shape := ⟨4, ![1, 1, 1, 254]⟩
abbrev S11x3072x32x254 : Shape := ⟨4, ![11, 3072, 32, 254]⟩
abbrev S11x1024x3072 : Shape := ⟨3, ![11, 1024, 3072]⟩
abbrev S11x1024x96x32 : Shape := ⟨4, ![11, 1024, 96, 32]⟩
abbrev S11x1024x96 : Shape := ⟨3, ![11, 1024, 96]⟩
abbrev S11x1024x96x1 : Shape := ⟨4, ![11, 1024, 96, 1]⟩
abbrev S11x1024x96x254 : Shape := ⟨4, ![11, 1024, 96, 254]⟩

abbrev nBuf : Space → Nat
  | .hbm => 153
  | .vmem => 0
  | .smem => 0
  | _ => 0

abbrev hbmTy0_0 (i : Nat) : BufTy := match i % 128 with
  | 0 => ⟨S3, .f32⟩
  | 1 => ⟨S11x3072x1024, .f32⟩
  | 2 => ⟨S11x3072x1024, .f32⟩
  | 3 => ⟨S11x3072x1024, .f32⟩
  | 4 => ⟨S11x3072x1024, .f32⟩
  | 5 => ⟨S1, .f32⟩
  | 6 => ⟨S_, .f32⟩
  | 7 => ⟨S1, .f32⟩
  | 8 => ⟨S_, .f32⟩
  | 9 => ⟨S1, .f32⟩
  | 10 => ⟨S_, .f32⟩
  | 11 => ⟨S11x3072x1024, .f32⟩
  | 12 => ⟨S11x3072x1024, .f32⟩
  | 13 => ⟨S_, .f32⟩
  | 14 => ⟨S11x3072x1024, .f32⟩
  | 15 => ⟨S11x3072x1024, .f32⟩
  | 16 => ⟨S_, .f32⟩
  | 17 => ⟨S11x3072x1024, .f32⟩
  | 18 => ⟨S11x3072x1024, .f32⟩
  | 19 => ⟨S11x3072x1024, .f32⟩
  | 20 => ⟨S_, .f32⟩
  | 21 => ⟨S11x3072x1024, .f32⟩
  | 22 => ⟨S11x3072x1024, .f32⟩
  | 23 => ⟨S_, .f32⟩
  | 24 => ⟨S11x3072x1024, .f32⟩
  | 25 => ⟨S11x3072x1024, .f32⟩
  | 26 => ⟨S11x3072x1024, .f32⟩
  | 27 => ⟨S11x3072x1024, .f32⟩
  | 28 => ⟨S_, .f32⟩
  | 29 => ⟨S11x3072x1024, .f32⟩
  | 30 => ⟨S11x3072x1024, .f32⟩
  | 31 => ⟨S11x3072x1024, .f32⟩
  | 32 => ⟨S11x3072x1024, .f32⟩
  | 33 => ⟨S11x3072x1024, .f32⟩
  | 34 => ⟨S11x3072x1024, .f32⟩
  | 35 => ⟨S11x3072x1024, .f32⟩
  | 36 => ⟨S_, .f32⟩
  | 37 => ⟨S11x3072x1024, .f32⟩
  | 38 => ⟨S11x3072x1024, .f32⟩
  | 39 => ⟨S11x3072x1024, .f32⟩
  | 40 => ⟨S11x3072x1024, .f32⟩
  | 41 => ⟨S11x3072x1024, .f32⟩
  | 42 => ⟨S11x3072x32x32, .f32⟩
  | 43 => ⟨S11x3072x32x32, .f32⟩
  | 44 => ⟨S_, .f32⟩
  | 45 => ⟨S11x3072x32, .f32⟩
  | 46 => ⟨S_, .f32⟩
  | 47 => ⟨S11x3072x32, .f32⟩
  | 48 => ⟨S11x3072x32, .f32⟩
  | 49 => ⟨S11x3072x32x1, .f32⟩
  | 50 => ⟨S254, .i32⟩
  | 51 => ⟨S_, .i32⟩
  | 52 => ⟨S254, .i32⟩
  | 53 => ⟨S254, .i32⟩
  | 54 => ⟨S254, .f32⟩
  | 55 => ⟨S_, .f32⟩
  | 56 => ⟨S254, .f32⟩
  | 57 => ⟨S254, .f32⟩
  | 58 => ⟨S1x1x1x254, .f32⟩
  | 59 => ⟨S11x3072x32x254, .f32⟩
  | 60 => ⟨S11x3072x32x254, .f32⟩
  | 61 => ⟨S11x3072x32x254, .i1⟩
  | 62 => ⟨S11x3072x32x254, .i32⟩
  | 63 => ⟨S_, .i32⟩
  | 64 => ⟨S11x3072x32, .i32⟩
  | 65 => ⟨S_, .i32⟩
  | 66 => ⟨S11x3072x32, .i32⟩
  | 67 => ⟨S11x3072x32, .i32⟩
  | 68 => ⟨S_, .f32⟩
  | 69 => ⟨S11x3072x32, .f32⟩
  | 70 => ⟨S11x3072x32, .i1⟩
  | 71 => ⟨S_, .i32⟩
  | 72 => ⟨S_, .i32⟩
  | 73 => ⟨S11x3072x32, .i32⟩
  | 74 => ⟨S11x3072x32, .i32⟩
  | 75 => ⟨S11x3072x32, .f32⟩
  | 76 => ⟨S11x3072x32, .f32⟩
  | 77 => ⟨S_, .f32⟩
  | 78 => ⟨S11x3072x32, .f32⟩
  | 79 => ⟨S11x3072x32, .f32⟩
  | 80 => ⟨S11x3072x32x1, .f32⟩
  | 81 => ⟨S11x3072x32x32, .f32⟩
  | 82 => ⟨S11x3072x32x32, .f32⟩
  | 83 => ⟨S_, .f32⟩
  | 84 => ⟨S_, .f32⟩
  | 85 => ⟨S_, .f32⟩
  | 86 => ⟨S11x3072x32x32, .f32⟩
  | 87 => ⟨S11x3072x32x32, .f32⟩
  | 88 => ⟨S_, .f32⟩
  | 89 => ⟨S11x3072x32x32, .f32⟩
  | 90 => ⟨S11x3072x32x32, .f32⟩
  | 91 => ⟨S11x3072x32x32, .fp8e4m3⟩
  | 92 => ⟨S11x3072x1024, .fp8e4m3⟩
  | 93 => ⟨S_, .i32⟩
  | 94 => ⟨S11x3072x32, .i32⟩
  | 95 => ⟨S11x3072x32, .i32⟩
  | 96 => ⟨S11x3072x32, .i8⟩
  | 97 => ⟨S11x1024x3072, .f32⟩
  | 98 => ⟨S11x1024x96x32, .f32⟩
  | 99 => ⟨S11x1024x96x32, .f32⟩
  | 100 => ⟨S_, .f32⟩
  | 101 => ⟨S11x1024x96, .f32⟩
  | 102 => ⟨S_, .f32⟩
  | 103 => ⟨S11x1024x96, .f32⟩
  | 104 => ⟨S11x1024x96, .f32⟩
  | 105 => ⟨S11x1024x96x1, .f32⟩
  | 106 => ⟨S254, .i32⟩
  | 107 => ⟨S_, .i32⟩
  | 108 => ⟨S254, .i32⟩
  | 109 => ⟨S254, .i32⟩
  | 110 => ⟨S254, .f32⟩
  | 111 => ⟨S_, .f32⟩
  | 112 => ⟨S254, .f32⟩
  | 113 => ⟨S254, .f32⟩
  | 114 => ⟨S1x1x1x254, .f32⟩
  | 115 => ⟨S11x1024x96x254, .f32⟩
  | 116 => ⟨S11x1024x96x254, .f32⟩
  | 117 => ⟨S11x1024x96x254, .i1⟩
  | 118 => ⟨S11x1024x96x254, .i32⟩
  | 119 => ⟨S_, .i32⟩
  | 120 => ⟨S11x1024x96, .i32⟩
  | 121 => ⟨S_, .i32⟩
  | 122 => ⟨S11x1024x96, .i32⟩
  | 123 => ⟨S11x1024x96, .i32⟩
  | 124 => ⟨S_, .f32⟩
  | 125 => ⟨S11x1024x96, .f32⟩
  | 126 => ⟨S11x1024x96, .i1⟩
  | 127 => ⟨S_, .i32⟩
  | _ => ⟨S3, .f32⟩

abbrev hbmTy0_1 (i : Nat) : BufTy := match i % 128 with
  | 0 => ⟨S_, .i32⟩
  | 1 => ⟨S11x1024x96, .i32⟩
  | 2 => ⟨S11x1024x96, .i32⟩
  | 3 => ⟨S11x1024x96, .f32⟩
  | 4 => ⟨S11x1024x96, .f32⟩
  | 5 => ⟨S_, .f32⟩
  | 6 => ⟨S11x1024x96, .f32⟩
  | 7 => ⟨S11x1024x96, .f32⟩
  | 8 => ⟨S11x1024x96x1, .f32⟩
  | 9 => ⟨S11x1024x96x32, .f32⟩
  | 10 => ⟨S11x1024x96x32, .f32⟩
  | 11 => ⟨S_, .f32⟩
  | 12 => ⟨S_, .f32⟩
  | 13 => ⟨S_, .f32⟩
  | 14 => ⟨S11x1024x96x32, .f32⟩
  | 15 => ⟨S11x1024x96x32, .f32⟩
  | 16 => ⟨S_, .f32⟩
  | 17 => ⟨S11x1024x96x32, .f32⟩
  | 18 => ⟨S11x1024x96x32, .f32⟩
  | 19 => ⟨S11x1024x96x32, .fp8e4m3⟩
  | 20 => ⟨S11x1024x3072, .fp8e4m3⟩
  | 21 => ⟨S_, .i32⟩
  | 22 => ⟨S11x1024x96, .i32⟩
  | 23 => ⟨S11x1024x96, .i32⟩
  | 24 => ⟨S11x1024x96, .i8⟩
  | _ => ⟨S3, .f32⟩

abbrev hbmTy (i : Nat) : BufTy := match i / 128 with
  | 0 => hbmTy0_0 i
  | 1 => hbmTy0_1 i
  | _ => ⟨S3, .f32⟩

abbrev bufTy : (tb : Table) → Fin (tcTables nBuf tb) → BufTy
  | .hbm, ⟨i, _⟩ => hbmTy i
  | _, _ => ⟨S3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c_8 : Ref sig .tc := ⟨.hbm, 63, rfl⟩
abbrev main_v48 : Ref sig .tc := ⟨.hbm, 64, rfl⟩
abbrev main_c_9 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_c_11 : Ref sig .tc := ⟨.hbm, 71, rfl⟩
abbrev main_call0_v0 : Ref sig .tc := ⟨.hbm, 72, rfl⟩
abbrev main_call0_v1 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_12 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_13 : Ref sig .tc := ⟨.hbm, 83, rfl⟩
abbrev main_cst_14 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_16 : Ref sig .tc := ⟨.hbm, 100, rfl⟩
abbrev main_v70 : Ref sig .tc := ⟨.hbm, 101, rfl⟩
abbrev main_cst_17 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_18 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_19 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_c_20 : Ref sig .tc := ⟨.hbm, 119, rfl⟩
abbrev main_v85 : Ref sig .tc := ⟨.hbm, 120, rfl⟩
abbrev main_c_21 : Ref sig .tc := ⟨.hbm, 121, rfl⟩
abbrev main_v86 : Ref sig .tc := ⟨.hbm, 122, rfl⟩
abbrev main_v87 : Ref sig .tc := ⟨.hbm, 123, rfl⟩
abbrev main_cst_22 : Ref sig .tc := ⟨.hbm, 124, rfl⟩
abbrev main_v88 : Ref sig .tc := ⟨.hbm, 125, rfl⟩
abbrev main_v89 : Ref sig .tc := ⟨.hbm, 126, rfl⟩
abbrev main_c_23 : Ref sig .tc := ⟨.hbm, 127, rfl⟩
abbrev main_call2_v0 : Ref sig .tc := ⟨.hbm, 128, rfl⟩
abbrev main_call2_v1 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_24 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_25 : Ref sig .tc := ⟨.hbm, 139, rfl⟩
abbrev main_cst_26 : Ref sig .tc := ⟨.hbm, 140, rfl⟩
abbrev main_call3_v0 : Ref sig .tc := ⟨.hbm, 141, rfl⟩
abbrev main_call3_v1 : Ref sig .tc := ⟨.hbm, 142, rfl⟩
abbrev main_call3_v2 : Ref sig .tc := ⟨.hbm, 143, rfl⟩
abbrev main_call3_v3 : Ref sig .tc := ⟨.hbm, 144, rfl⟩
abbrev main_call3_v4 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_c_27 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩

abbrev nD : Nat := 1
abbrev τ : Topo := Topo.v7x

variable {F : FTy → Type} [FloatOps F]
-- ==== Proof.Spec.lean ====
/- What the optimiser step computes over the extended reals, element by element: one function per result,
   written over the argument arrays. The kernel's run and the reference's run are each shown to end at these
   functions (Proof/KernelValue.lean, Proof/RefValue.lean). -/
module

public import Idealize.ShloMosaic.Lib.Pointwise

@[expose] public section

set_option maxRecDepth 16384

noncomputable section

namespace Cert.Spec

open Idealize.ShloMosaic Idealize.ShloMosaic.TcCoe Idealize.SL.Sem

/-- An array of extended reals with a scale per expert and microbatch. -/
abbrev Scales := (⟨2, ![11, 4]⟩ : Shape).Idx → EReal
/-- The activations: expert, microbatch, token, model dimension. -/
abbrev Acts := (⟨4, ![11, 4, 2048, 1024]⟩ : Shape).Idx → EReal
/-- The output gradients: expert, microbatch, token, hidden dimension. -/
abbrev Outs := (⟨4, ![11, 4, 2048, 3072]⟩ : Shape).Idx → EReal
/-- A weight-shaped array: expert, hidden dimension, model dimension. -/
abbrev Weights := (⟨3, ![11, 3072, 1024]⟩ : Shape).Idx → EReal
/-- The history of largest magnitudes: expert, age. -/
abbrev Hist := (⟨2, ![11, 16]⟩ : Shape).Idx → EReal

/-- The accumulated weight gradient at `(n, f, d)`: the main gradient plus the sum over microbatches and tokens of
    the descaled products. -/
def grad (x : Acts) (xs : Scales) (dy : Outs) (ds : Scales) (mg : Weights) (n : Fin 11) (f : Fin 3072) (d : Fin 1024) : EReal :=
  mg (ix3 n f d) + ∑ g : Fin 4, ∑ t : Fin 2048, dy (ix4 n g t f) * (xs (ix2 n g) * ds (ix2 n g)) * x (ix4 n g t d)

/-- The sum of the squares of all elements. -/
def sumSq (g : Fin 11 → Fin 3072 → Fin 1024 → EReal) : EReal := ∑ n, ∑ f, ∑ d, g n f d * g n f d

/-- The clipping factor for a gradient norm. -/
def clip (maxNorm norm : EReal) : EReal := min 1 (Ideal.div maxNorm (norm + Ideal.ofBits .f32 0x358637BD#32))

/-- First moment. -/
def mNew (gc m : EReal) : EReal := Ideal.ofBits .f32 0x3F666666#32 * m + Ideal.ofBits .f32 0x3DCCCCCD#32 * gc

/-- Second moment. -/
def vNew (gc v : EReal) : EReal := Ideal.ofBits .f32 0x3F733333#32 * v + Ideal.ofBits .f32 0x3D4CCCCD#32 * gc * gc

/-- The bias correction `1 - beta^s`. -/
def bias (beta : BitVec 32) (s : EReal) : EReal := 1 - Ideal.pow (Ideal.ofBits .f32 beta) s

/-- The learning rate divided by the first moment's bias correction. -/
def rate (s : EReal) : EReal := Ideal.div (Ideal.ofBits .f32 0x3A83126F#32) (bias 0x3F666666#32 s)

/-- The square root of the second moment's bias correction. -/
def root (s : EReal) : EReal := Ideal.sqrt (bias 0x3F733333#32 s)

/-- The weight's change, the second moment's root being divided by `root s`. -/
def wDelta (s mn vn w : EReal) : EReal :=
  Ideal.ofBits .f32 0xB8D1B717#32 * w
    - Ideal.div (rate s * mn) (Ideal.div (Ideal.sqrt vn) (root s) + Ideal.ofBits .f32 0x322BCC77#32)

end Cert.Spec

end
-- ==== Proof.KPay0.lean ====
/- What the weight-gradient call stores at one grid point, over the loaded blocks: its gradient block and the
   running sum of squares, each read at one element. -/
module

public import proofs.«01_k».proof.Proof.Gen.KernelIdeal.Skeleton
public import proofs.«01_k».proof.Proof.Spec

@[expose] public section

set_option maxRecDepth 16384

noncomputable section

namespace Cert.KernelIdeal.Value

open Idealize.ShloMosaic Idealize.ShloMosaic.TcCoe Idealize.SL.Sem
open Cert.KernelIdeal Cert.KernelIdeal.Gen

/-- The accumulator starts at zero. -/
theorem pay1_apply (a : Fin 8) (b : Fin 1024) : k0_pay1 (F := Ideal) (ix2 a b) = (0 : EReal) := by
  pointwise [k0_pay1]

section
variable (v1 v3 : Elt Ideal .f32) (v6 : FVec Ideal S1x1x2048x512 .fp8e5m2) (v11 : FVec Ideal S1x1x2048x1024 .fp8e4m3)
    (v15 v17 : Elt Ideal .f32) (v20 : FVec Ideal S1x1x2048x512 .fp8e5m2) (v25 : FVec Ideal S1x1x2048x1024 .fp8e4m3)
    (v30 v32 : Elt Ideal .f32) (v35 : FVec Ideal S1x1x2048x512 .fp8e5m2) (v40 : FVec Ideal S1x1x2048x1024 .fp8e4m3)
    (v45 v47 : Elt Ideal .f32) (v50 : FVec Ideal S1x1x2048x512 .fp8e5m2) (v55 : FVec Ideal S1x1x2048x1024 .fp8e4m3)
    (v59 : FVec Ideal S1x512x1024 .f32) (acc : FVec Ideal S8x1024 .f32)
    (x : Spec.Acts) (xs : Spec.Scales) (dy : Spec.Outs) (ds : Spec.Scales) (mg : Spec.Weights)
    (n : Fin 11) (e : Fin 512 → Fin 3072)

/-- When the loaded blocks are expert `n`'s and the columns `e` of the argument arrays, the gradient block is the
    gradient there. -/
theorem pay5_grad
    (h1 : v1 = xs (ix2 n 0)) (h15 : v15 = xs (ix2 n 1)) (h30 : v30 = xs (ix2 n 2)) (h45 : v45 = xs (ix2 n 3))
    (h3 : v3 = ds (ix2 n 0)) (h17 : v17 = ds (ix2 n 1)) (h32 : v32 = ds (ix2 n 2)) (h47 : v47 = ds (ix2 n 3))
    (h6 : ∀ t a, v6 (ix4 0 0 t a) = dy (ix4 n 0 t (e a))) (h20 : ∀ t a, v20 (ix4 0 0 t a) = dy (ix4 n 1 t (e a)))
    (h35 : ∀ t a, v35 (ix4 0 0 t a) = dy (ix4 n 2 t (e a))) (h50 : ∀ t a, v50 (ix4 0 0 t a) = dy (ix4 n 3 t (e a)))
    (h11 : ∀ t b, v11 (ix4 0 0 t b) = x (ix4 n 0 t b)) (h25 : ∀ t b, v25 (ix4 0 0 t b) = x (ix4 n 1 t b))
    (h40 : ∀ t b, v40 (ix4 0 0 t b) = x (ix4 n 2 t b)) (h55 : ∀ t b, v55 (ix4 0 0 t b) = x (ix4 n 3 t b))
    (h59 : ∀ a b, v59 (ix3 0 a b) = mg (ix3 n (e a) b)) (a : Fin 512) (b : Fin 1024) :
    k0_pay5 (k0_pay3 v1 v3 v6 v11 v15 v17 v20 v25) (k0_pay4 v30 v32) v35 v40 v45 v47 v50 v55 v59 (ix2 a b)
      = Spec.grad x xs dy ds mg n (e a) b := by
  pointwise [k0_pay5, k0_pay3, k0_pay4, Spec.grad, h1, h15, h30, h45, h3, h17, h32, h47, h6, h20, h35, h50, h11, h25, h40, h55, h59]
  simp only [Fin.sum_univ_four]

/-- The stored gradient block and the stored sum of squares, element by element. -/
theorem stored_grad
    (h1 : v1 = xs (ix2 n 0)) (h15 : v15 = xs (ix2 n 1)) (h30 : v30 = xs (ix2 n 2)) (h45 : v45 = xs (ix2 n 3))
    (h3 : v3 = ds (ix2 n 0)) (h17 : v17 = ds (ix2 n 1)) (h32 : v32 = ds (ix2 n 2)) (h47 : v47 = ds (ix2 n 3))
    (h6 : ∀ t a, v6 (ix4 0 0 t a) = dy (ix4 n 0 t (e a))) (h20 : ∀ t a, v20 (ix4 0 0 t a) = dy (ix4 n 1 t (e a)))
    (h35 : ∀ t a, v35 (ix4 0 0 t a) = dy (ix4 n 2 t (e a))) (h50 : ∀ t a, v50 (ix4 0 0 t a) = dy (ix4 n 3 t (e a)))
    (h11 : ∀ t b, v11 (ix4 0 0 t b) = x (ix4 n 0 t b)) (h25 : ∀ t b, v25 (ix4 0 0 t b) = x (ix4 n 1 t b))
    (h40 : ∀ t b, v40 (ix4 0 0 t b) = x (ix4 n 2 t b)) (h55 : ∀ t b, v55 (ix4 0 0 t b) = x (ix4 n 3 t b))
    (h59 : ∀ a b, v59 (ix3 0 a b) = mg (ix3 n (e a) b)) (a : Fin 512) (b : Fin 1024) (r : Fin 8) :
    k0_pay6 (k0_pay3 v1 v3 v6 v11 v15 v17 v20 v25) (k0_pay4 v30 v32) v35 v40 v45 v47 v50 v55 v59 (ix3 0 a b)
      = Spec.grad x xs dy ds mg n (e a) b
    ∧ k0_pay2 (k0_pay7 (k0_pay3 v1 v3 v6 v11 v15 v17 v20 v25) (k0_pay4 v30 v32) v35 v40 v45 v47 v50 v55 v59) acc (ix2 r b)
      = acc (ix2 r b) + ∑ p : Fin 64, Spec.grad x xs dy ds mg n (e ⟨p.val * 8 + r.val, by omega⟩) b
          * Spec.grad x xs dy ds mg n (e ⟨p.val * 8 + r.val, by omega⟩) b := by
  have h := pay5_grad v1 v3 v6 v11 v15 v17 v20 v25 v30 v32 v35 v40 v45 v47 v50 v55 v59 x xs dy ds mg n e
    h1 h15 h30 h45 h3 h17 h32 h47 h6 h20 h35 h50 h11 h25 h40 h55 h59
  constructor
  · pointwise [k0_pay6, h]
  · pointwise [k0_pay2, k0_pay7, h]

end

end Cert.KernelIdeal.Value

end
-- ==== Proof.KRegion0.lean ====
module

public import Idealize.ShloMosaic.Lib.Pipeline.ValueKit
public import proofs.«01_k».proof.Proof.Gen.KernelIdeal.Frame.Region0
public import proofs.«01_k».proof.Proof.KPay0

@[expose] public section

set_option maxRecDepth 16384

noncomputable section

namespace Cert.KernelIdeal.Value

open Idealize.ShloMosaic Idealize.ShloMosaic.TcCoe Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The block each window stages at a grid point. -/
theorem idx0 : ∀ t : Fin cfg0.N,
    win0_0.index t = ![0, 0] ∧ win0_1.index t = ![0, 0] ∧
    win0_2.index t = ![t.val / 6, 0, 0, 0] ∧ win0_3.index t = ![t.val / 6, 0, 0, t.val % 6] ∧
    win0_4.index t = ![t.val / 6, t.val % 6, 0] ∧ win0_5.index t = ![t.val / 6, t.val % 6, 0] ∧
    win0_6.index t = ![0, 0] :=
  (by decide +kernel : ∀ t : Fin grid0.N, _)

/-- The four scale reads of a grid point: its expert's row, one microbatch each. -/
theorem off0 : ∀ t : Fin cfg0.N,
    k0_off1 (grid0.coords t) = ![t.val / 6, 0] ∧ k0_off2 (grid0.coords t) = ![t.val / 6, 1] ∧
    k0_off3 (grid0.coords t) = ![t.val / 6, 2] ∧ k0_off4 (grid0.coords t) = ![t.val / 6, 3] :=
  (by decide +kernel : ∀ t : Fin grid0.N, _)

/-- The gradient of the region's argument arrays. -/
def grad0 (c : Dev nD) : Fin 11 → Fin 3072 → Fin 1024 → EReal :=
  Spec.grad (V c main_arg0) (V c main_arg1) (V c main_arg2) (V c main_arg3) (V c main_arg4)

theorem lt66 (t : Fin cfg0.N) : t.val < 66 := lt_of_lt_of_eq t.isLt N_0

/-- A grid point's expert. -/
def ex0 (t : Fin cfg0.N) : Fin 11 := ⟨t.val / 6, by have := lt66 t; omega⟩
/-- The hidden coordinate of row `a` of a grid point's block. -/
def row0 (t : Fin cfg0.N) (a : Fin 512) : Fin 3072 := ⟨t.val % 6 * 512 + a.val, by omega⟩

theorem xs_blk (c : Dev nD) (t : Fin cfg0.N) (i : Fin 11) (g : Fin 4) :
    iblk0 V c 0 t (ix2 i g) = V c main_arg1 (ix2 i g) := by
  blk_point [iblk0, idx0 t]

theorem ds_blk (c : Dev nD) (t : Fin cfg0.N) (i : Fin 11) (g : Fin 4) :
    iblk0 V c 1 t (ix2 i g) = V c main_arg3 (ix2 i g) := by
  blk_point [iblk0, idx0 t]

theorem x_blk (c : Dev nD) (t : Fin cfg0.N) (g : Fin 4) (s : Fin 2048) (b : Fin 1024) :
    iblk0 V c 2 t (ix4 0 g s b) = V c main_arg0 (ix4 (ex0 t) g s b) := by
  have ht := lt66 t
  blk_point [iblk0, idx0 t, ex0]

theorem dy_blk (c : Dev nD) (t : Fin cfg0.N) (g : Fin 4) (s : Fin 2048) (a : Fin 512) :
    iblk0 V c 3 t (ix4 0 g s a) = V c main_arg2 (ix4 (ex0 t) g s (row0 t a)) := by
  have ht := lt66 t
  blk_point [iblk0, idx0 t, ex0, row0]

theorem mg_blk (c : Dev nD) (t : Fin cfg0.N) (a : Fin 512) (b : Fin 1024) :
    iblk0 V c 4 t (ix3 0 a b) = V c main_arg4 (ix3 (ex0 t) (row0 t a) b) := by
  have ht := lt66 t
  blk_point [iblk0, idx0 t, ex0, row0]

/-- The sum of squares one grid point adds at `(r, b)`. -/
def sq0 (c : Dev nD) (t : Fin cfg0.N) (r : Fin 8) (b : Fin 1024) : EReal :=
  ∑ p : Fin 64, grad0 V c (ex0 t) (row0 t ⟨p.val * 8 + r.val, by omega⟩) b
    * grad0 V c (ex0 t) (row0 t ⟨p.val * 8 + r.val, by omega⟩) b

/-- What a grid point leaves in its two output buffers, when the sum of squares is reset there. -/
theorem outs0_A (c : Dev nD) (t : Fin cfg0.N) (h0 : t.val % 66 = 0) (a : Fin 512) (b : Fin 1024) (r : Fin 8) :
    (outsAt0 V c t.val t.isLt).1 (ix3 0 a b) = grad0 V c (ex0 t) (row0 t a) b
    ∧ (outsAt0 V c t.val t.isLt).2 (ix2 r b) = (show EReal from 0) + sq0 V c t r b := by
  obtain ⟨o1, o2, o3, o4⟩ := off0 t
  rw [outsAt0_A V c t h0, ← pay1_apply r b]
  frame_out
  refine stored_grad _ _ _ _ _ _ _ _ _ _ _ _ _ _ _ _ _ _ (V c main_arg0) (V c main_arg1) (V c main_arg2) (V c main_arg3)
    (V c main_arg4) (ex0 t) (row0 t) ?_ ?_ ?_ ?_ ?_ ?_ ?_ ?_ (fun s a => ?_) (fun s a => ?_) (fun s a => ?_) (fun s a => ?_)
    (fun s a => ?_) (fun s a => ?_) (fun s a => ?_) (fun s a => ?_) (fun a b => ?_) a b r
  all_goals pointwise [o1, o2, o3, o4]
  all_goals first
    | exact xs_blk V c t (ex0 t) _ | exact ds_blk V c t (ex0 t) _ | exact x_blk V c t _ _ _ | exact dy_blk V c t _ _ _
    | exact mg_blk V c t _ _

/-- What a grid point leaves in its two output buffers, when the sum of squares is carried over from the point before. -/
theorem outs0_B (c : Dev nD) (t : Fin cfg0.N) (h0 : ¬ t.val % 66 = 0) (a : Fin 512) (b : Fin 1024) (r : Fin 8) :
    (outsAt0 V c t.val t.isLt).1 (ix3 0 a b) = grad0 V c (ex0 t) (row0 t a) b
    ∧ (outsAt0 V c t.val t.isLt).2 (ix2 r b)
      = (show EReal from (outsAt0 V c (t.val - 1) (Nat.lt_of_le_of_lt (Nat.sub_le _ _) t.isLt)).2 (ix2 r b)) + sq0 V c t r b := by
  obtain ⟨o1, o2, o3, o4⟩ := off0 t
  rw [outsAt0_B V c t h0]
  frame_out
  refine stored_grad _ _ _ _ _ _ _ _ _ _ _ _ _ _ _ _ _ _ (V c main_arg0) (V c main_arg1) (V c main_arg2) (V c main_arg3)
    (V c main_arg4) (ex0 t) (row0 t) ?_ ?_ ?_ ?_ ?_ ?_ ?_ ?_ (fun s a => ?_) (fun s a => ?_) (fun s a => ?_) (fun s a => ?_)
    (fun s a => ?_) (fun s a => ?_) (fun s a => ?_) (fun s a => ?_) (fun a b => ?_) a b r
  all_goals pointwise [o1, o2, o3, o4]
  all_goals first
    | exact xs_blk V c t (ex0 t) _ | exact ds_blk V c t (ex0 t) _ | exact x_blk V c t _ _ _ | exact dy_blk V c t _ _ _
    | exact mg_blk V c t _ _

/-- An index of a one-expert block, by its two free coordinates. -/
theorem eq_ix3_unit (y : S1x512x1024.Idx) : y = ix3 0 (y 1) (y 2) := by
  refine (eq_ix3 y).trans ?_
  have : y 0 = (0 : Fin 1) := Subsingleton.elim (α := Fin 1) _ _
  rw [this]; rfl

/-- The gradient array after the call. -/
theorem grad_arr (c : Dev nD) :
    (dat0 V c).arrAt 5 cfg0.N = fun j : S11x3072x1024.Idx => grad0 V c (j 0) (j 1) (j 2) := by
  refine (dat0 V c).arrAt_eq_of_covers 5 _ (by decide +kernel) fun t hf y => ?_
  have h : ∀ (a : Fin 512) (b : Fin 1024),
      (outsAt0 V c t.val t.isLt).1 (ix3 0 a b) = grad0 V c (ex0 t) (row0 t a) b := fun a b => by
    by_cases h0 : t.val % 66 = 0
    · exact (outs0_A V c t h0 a b 0).1
    · exact (outs0_B V c t h0 a b 0).1
  have ht := lt66 t
  blk_simp
  rw [after0_5]
  refine (congrArg (outsAt0 V c t.val t.isLt).1 (eq_ix3_unit y)).trans ((h (y 1) (y 2)).trans ?_)
  refine congr (congr (congrArg _ (Fin.ext ?_)) (Fin.ext ?_)) (Fin.ext ?_) <;> simp only [ex0, row0] <;>
    blk_simp [idx0 t] <;> omega

/-- The array of sums of squares after the call: at `(r, d)` the sum over the grid and the 64 row groups. -/
theorem ssq_arr (c : Dev nD) :
    (dat0 V c).arrAt 6 cfg0.N = fun j : S8x1024.Idx => ∑ t : Fin cfg0.N, sq0 V c t (j 0) (j 1) := by
  refine (dat0 V c).arrAt_eq_of_covers 6 _ (by decide +kernel) fun t hf y => ?_
  have ht := lt66 t
  have hl : t.val % 66 = 66 - 1 := (flush0_6 t).mp hf
  blk_simp
  rw [after0_6]
  have key := Pipeline.eq_sum_fin_of_reset_step_apply_of_flush (M := EReal) (ι := S8x1024.Idx) (N := cfg0.N)
    (fun n h => (outsAt0 V c n h).2) 66 (fun _ => 0) (fun t j => sq0 V c t (j 0) (j 1))
    (fun t h j => by
      refine (congrArg (outsAt0 V c t.val t.isLt).2 (eq_ix2 j)).trans ?_
      exact (outs0_A V c t h 0 (j 1) (j 0)).2)
    (fun t h j => by
      refine (congrArg (outsAt0 V c t.val t.isLt).2 (eq_ix2 j)).trans (((outs0_B V c t h 0 (j 1) (j 0)).2).trans ?_)
      exact congrArg (fun k => (show EReal from (outsAt0 V c (t.val - 1) _).2 k) + sq0 V c t (j 0) (j 1)) (eq_ix2 j).symm)
    t hl y
  refine key.trans ?_
  rw [zero_add]
  refine Fintype.sum_equiv (finCongr N_0.symm) _ _ fun s => ?_
  refine congr (congr (congrArg _ (Fin.ext ?_)) (Fin.ext ?_)) (Fin.ext ?_)
  · show 66 * (t.val / 66) + s.val = s.val
    omega
  · blk_simp [idx0 t]
  · blk_simp [idx0 t]

end Cert.KernelIdeal.Value

end
-- ==== Proof.Division.lean ====
/- Dividing by the square root of the second moment's bias correction against multiplying by its reciprocal: equal
   when that root is not zero, which holds at every step other than zero. -/
module

public import proofs.«01_k».proof.Proof.Spec

@[expose] public section

noncomputable section

namespace Cert.Spec

open Idealize.ShloMosaic

/-- The decay rate of the second moment is a real number strictly between zero and one. -/
theorem beta2 : ∃ b : ℝ, 0 < b ∧ b < 1 ∧ Ideal.ofBits .f32 0x3F733333#32 = (b : EReal) := by
  refine ⟨15938355 / 2 ^ 24, by norm_num, by norm_num, ?_⟩
  simp [Ideal.ofBits, Ideal.ieee]
  rw [← EReal.coe_mul]
  norm_num

/-- At a step other than zero the root of the bias correction is not zero. -/
theorem root_ne_zero (s : ℝ) (hs : s ≠ 0) : root (s : EReal) ≠ 0 := by
  obtain ⟨b, h0, h1, hb⟩ := beta2
  have hp : Real.rpow b s ≠ 1 := by
    rcases lt_or_gt_of_ne hs with h | h
    · exact (Real.one_lt_rpow_of_pos_of_lt_one_of_neg h0 h1 h).ne'
    · exact (Real.rpow_lt_one h0.le h1 h).ne
  have e : bias 0x3F733333#32 (s : EReal) = ((1 - Real.rpow b s : ℝ) : EReal) := by
    unfold bias
    rw [hb]
    rw [EReal.coe_sub]
    rfl
  unfold root
  rw [e]
  have hr : 1 - Real.rpow b s ≠ 0 := sub_ne_zero.2 (Ne.symm hp)
  generalize 1 - Real.rpow b s = r at hr
  have es : Ideal.sqrt (r : EReal) = if r < 0 then ⊥ else (Real.sqrt r : EReal) := rfl
  rw [es]
  split
  · simp
  · rename_i h
    have : 0 < Real.sqrt r := Real.sqrt_pos.2 (lt_of_le_of_ne (not_lt.1 h) (Ne.symm hr))
    exact_mod_cast this.ne'

/-- Multiplying by the reciprocal is dividing. -/
theorem mul_recip (a b : EReal) (hb : b ≠ 0) : a * Ideal.div 1 b = Ideal.div a b := by
  simp [Ideal.div, hb]

/-- Minus infinity's bit pattern. -/
theorem ofBits_neg_inf : Ideal.ofBits .f32 0xFF800000#32 = ⊥ := by
  simp [Ideal.ofBits, Ideal.ieee]

end Cert.Spec

end
-- ==== Proof.KPay1.lean ====
/- What the update call stores at one grid point, over the loaded blocks: the new weights, their change, the two
   moments and the running largest magnitudes, each read at one element. -/
module

public import proofs.«01_k».proof.Proof.Gen.KernelIdeal.Skeleton
public import proofs.«01_k».proof.Proof.Division

@[expose] public section

set_option maxRecDepth 16384

noncomputable section

namespace Cert.KernelIdeal.Value

open Idealize.ShloMosaic Idealize.ShloMosaic.TcCoe Idealize.SL.Sem
open Cert.KernelIdeal Cert.KernelIdeal.Gen

/-- The weight's change as the update call computes it: from the rate `lr` and the reciprocal root `ir` it is given. -/
def delta (lr ir mn vn w : EReal) : EReal :=
  Ideal.ofBits .f32 0xB8D1B717#32 * w - Ideal.div (lr * mn) (Ideal.sqrt vn * ir + Ideal.ofBits .f32 0x322BCC77#32)

/-- The running largest magnitudes start at zero. -/
theorem pay14_apply (r : Fin 8) (b : Fin 1024) : k1_pay14 (F := Ideal) (ix3 0 r b) = (0 : EReal) := by
  pointwise [k1_pay14]

section
variable (v0 v1 v2 : Elt Ideal .f32) (v3 v5 v9 v16 : FVec Ideal S1x256x1024 .f32)

/-- The stored first moment. -/
theorem pay12_apply (a : Fin 256) (b : Fin 1024) :
    k1_pay12 (k1_pay6 v0 v5 v9) (ix3 0 a b) = Spec.mNew (v5 (ix3 0 a b) * v0) (v9 (ix3 0 a b)) := by
  pointwise [k1_pay12, k1_pay6, k1_pay5, Spec.mNew]

/-- The stored second moment. -/
theorem pay13_apply (a : Fin 256) (b : Fin 1024) :
    k1_pay13 (k1_pay7 v0 v5 v16) (ix3 0 a b) = Spec.vNew (v5 (ix3 0 a b) * v0) (v16 (ix3 0 a b)) := by
  pointwise [k1_pay13, k1_pay7, k1_pay5, Spec.vNew]

/-- The stored change of the weights. -/
theorem pay11_apply (a : Fin 256) (b : Fin 1024) :
    k1_pay11 (k1_pay8 v0 v1 v2 v3 v5 v9 v16) (ix3 0 a b)
      = delta v1 v2 (Spec.mNew (v5 (ix3 0 a b) * v0) (v9 (ix3 0 a b))) (Spec.vNew (v5 (ix3 0 a b) * v0) (v16 (ix3 0 a b)))
          (v3 (ix3 0 a b)) := by
  pointwise [k1_pay11, k1_pay8, k1_pay7, k1_pay6, k1_pay5, k1_pay4, Spec.mNew, Spec.vNew, delta]

/-- The new weights, before they are stored. -/
theorem pay9_apply (a : Fin 256) (b : Fin 1024) :
    k1_pay9 v0 v1 v2 v3 v5 v9 v16 (ix2 a b)
      = v3 (ix3 0 a b) + delta v1 v2 (Spec.mNew (v5 (ix3 0 a b) * v0) (v9 (ix3 0 a b)))
          (Spec.vNew (v5 (ix3 0 a b) * v0) (v16 (ix3 0 a b))) (v3 (ix3 0 a b)) := by
  pointwise [k1_pay9, k1_pay8, k1_pay7, k1_pay6, k1_pay5, k1_pay4, Spec.mNew, Spec.vNew, delta]

/-- The stored new weights. -/
theorem pay10_apply (v35 : FVec Ideal S256x1024 .f32) (a : Fin 256) (b : Fin 1024) :
    k1_pay10 v35 (ix3 0 a b) = v35 (ix2 a b) := by
  pointwise [k1_pay10]

end

/-- The running largest magnitude after a grid point, by its upper bounds: those of the magnitude before it and of
    every row of the block in the same place of its group of eight. -/
theorem pay15_le (v35 : FVec Ideal S256x1024 .f32) (v54 : FVec Ideal S1x8x1024 .f32) (r : Fin 8) (b : Fin 1024) (z : EReal) :
    (show EReal from k1_pay15 v35 v54 (ix3 0 r b)) ≤ z ↔ (show EReal from v54 (ix3 0 r b)) ≤ z
      ∧ ∀ p : Fin 32, max (show EReal from v35 (ix2 ⟨p.val * 8 + r.val, by omega⟩ b)) (-(show EReal from v35 (ix2 ⟨p.val * 8 + r.val, by omega⟩ b))) ≤ z := by
  pointwise [k1_pay15]
  simp only [max_le_iff, Finset.fold_max_le, Spec.ofBits_neg_inf, bot_le, true_and, Finset.mem_univ, forall_const,
    Ideal.absf_def]

/-- The first moment from a gradient array, a clipping factor and the old first moment. -/
def mU (g m : Spec.Weights) (s0 : EReal) (n : Fin 11) (f : Fin 3072) (d : Fin 1024) : EReal :=
  Spec.mNew (g (ix3 n f d) * s0) (m (ix3 n f d))
/-- The second moment from a gradient array, a clipping factor and the old second moment. -/
def vU (g v : Spec.Weights) (s0 : EReal) (n : Fin 11) (f : Fin 3072) (d : Fin 1024) : EReal :=
  Spec.vNew (g (ix3 n f d) * s0) (v (ix3 n f d))
/-- The weights' change from the update call's arguments. -/
def dU (g w m v : Spec.Weights) (s0 s1 s2 : EReal) (n : Fin 11) (f : Fin 3072) (d : Fin 1024) : EReal :=
  delta s1 s2 (mU g m s0 n f d) (vU g v s0 n f d) (w (ix3 n f d))
/-- The new weights from the update call's arguments. -/
def wU (g w m v : Spec.Weights) (s0 s1 s2 : EReal) (n : Fin 11) (f : Fin 3072) (d : Fin 1024) : EReal :=
  w (ix3 n f d) + dU g w m v s0 s1 s2 n f d

/-- When the loaded blocks are expert `n`'s and the rows `e` of the argument arrays, the stored blocks are the new
    weights, their change and the moments there, and the running largest magnitude takes in the new weights. -/
theorem stored_update (v0 v1 v2 : Elt Ideal .f32) (v3 v5 v9 v16 : FVec Ideal S1x256x1024 .f32) (acc : FVec Ideal S1x8x1024 .f32)
    (g w m v : Spec.Weights) (s0 s1 s2 : EReal) (n : Fin 11) (e : Fin 256 → Fin 3072)
    (h0 : v0 = s0) (h1 : v1 = s1) (h2 : v2 = s2)
    (h3 : ∀ a b, v3 (ix3 0 a b) = w (ix3 n (e a) b)) (h5 : ∀ a b, v5 (ix3 0 a b) = g (ix3 n (e a) b))
    (h9 : ∀ a b, v9 (ix3 0 a b) = m (ix3 n (e a) b)) (h16 : ∀ a b, v16 (ix3 0 a b) = v (ix3 n (e a) b))
    (a : Fin 256) (b : Fin 1024) (r : Fin 8) :
    k1_pay10 (k1_pay9 v0 v1 v2 v3 v5 v9 v16) (ix3 0 a b) = wU g w m v s0 s1 s2 n (e a) b
    ∧ k1_pay11 (k1_pay8 v0 v1 v2 v3 v5 v9 v16) (ix3 0 a b) = dU g w m v s0 s1 s2 n (e a) b
    ∧ k1_pay12 (k1_pay6 v0 v5 v9) (ix3 0 a b) = mU g m s0 n (e a) b
    ∧ k1_pay13 (k1_pay7 v0 v5 v16) (ix3 0 a b) = vU g v s0 n (e a) b
    ∧ ∀ z : EReal, (show EReal from k1_pay15 (k1_pay9 v0 v1 v2 v3 v5 v9 v16) acc (ix3 0 r b)) ≤ z
        ↔ (show EReal from acc (ix3 0 r b)) ≤ z
          ∧ ∀ p : Fin 32, max (wU g w m v s0 s1 s2 n (e ⟨p.val * 8 + r.val, by omega⟩) b)
              (-wU g w m v s0 s1 s2 n (e ⟨p.val * 8 + r.val, by omega⟩) b) ≤ z := by
  subst h0 h1 h2
  have hw : ∀ a b, k1_pay9 v0 v1 v2 v3 v5 v9 v16 (ix2 a b) = wU g w m v v0 v1 v2 n (e a) b := fun a b => by
    rw [pay9_apply, h3, h5, h9, h16]; rfl
  refine ⟨?_, ?_, ?_, ?_, fun z => ?_⟩
  · rw [pay10_apply, hw]
  · rw [pay11_apply, h3, h5, h9, h16]; rfl
  · rw [pay12_apply, h5, h9]; rfl
  · rw [pay13_apply, h5, h16]; rfl
  · refine (pay15_le _ _ r b z).trans ?_
    simp only [hw]

end Cert.KernelIdeal.Value

end
-- ==== Proof.Sums.lean ====
/- Regrouping the sum of squares: the kernel adds it up by grid point, then by groups of eight rows. -/
module

public import Idealize.ShloMosaic.Lib.Pipeline.ValueKit
public import proofs.«01_k».proof.Proof.Spec

@[expose] public section

set_option maxRecDepth 16384

noncomputable section

namespace Cert.Spec

open Idealize.ShloMosaic

/-- Summing over a row's place in its group of eight, over the 66 grid points and over the 64 groups of a block is
    summing over experts and rows. -/
theorem sum_rows (H : Fin 11 → Fin 3072 → EReal) :
    ∑ r : Fin 8, ∑ t : Fin 66, ∑ p : Fin 64,
        H ⟨t.val / 6, by omega⟩ ⟨t.val % 6 * 512 + (p.val * 8 + r.val), by omega⟩
      = ∑ n, ∑ f, H n f := by
  rw [Finset.sum_comm]
  have h1 : ∀ t : Fin 66, ∑ r : Fin 8, ∑ p : Fin 64,
      H ⟨t.val / 6, by omega⟩ ⟨t.val % 6 * 512 + (p.val * 8 + r.val), by omega⟩
      = ∑ a : Fin 512, H ⟨t.val / 6, by omega⟩ ⟨t.val % 6 * 512 + a.val, by omega⟩ := fun t => by
    rw [Finset.sum_comm]
    exact Fin.sum_mul_add_fin 64 8 (fun a : Fin 512 => H ⟨t.val / 6, by omega⟩ ⟨t.val % 6 * 512 + a.val, by omega⟩)
  rw [Finset.sum_congr rfl fun t _ => h1 t]
  rw [Fin.sum_divmod_fin 6 (fun (n : Fin 11) (j : Fin 6) => ∑ a : Fin 512, H n ⟨j.val * 512 + a.val, by omega⟩)]
  refine Finset.sum_congr rfl fun n _ => ?_
  exact Fin.sum_mul_add_fin 6 512 (fun f : Fin 3072 => H n f)

/-- The kernel's order of summation gives the sum of all squares. -/
theorem sum_blocks (g : Fin 11 → Fin 3072 → Fin 1024 → EReal) :
    ∑ r : Fin 8, ∑ d : Fin 1024, ∑ t : Fin 66, ∑ p : Fin 64,
        g ⟨t.val / 6, by omega⟩ ⟨t.val % 6 * 512 + (p.val * 8 + r.val), by omega⟩ d
          * g ⟨t.val / 6, by omega⟩ ⟨t.val % 6 * 512 + (p.val * 8 + r.val), by omega⟩ d
      = sumSq g := by
  unfold sumSq
  rw [Finset.sum_congr rfl fun r _ => Finset.sum_comm]
  rw [Finset.sum_congr rfl fun r _ => Finset.sum_congr rfl fun t _ => Finset.sum_comm]
  exact sum_rows fun n f => ∑ d, g n f d * g n f d

/-- A running maximum reset to zero at every multiple of 12, by its upper bounds: zero and every term of its run so
    far. -/
theorem run_max {N : ℕ} {ι : Type} (acc : (k : ℕ) → k < N → EReal) (term : Fin N → ι → EReal) (z : EReal)
    (hA : ∀ t : Fin N, t.val % 12 = 0 → (acc t.val t.isLt ≤ z ↔ 0 ≤ z ∧ ∀ p, term t p ≤ z))
    (hB : ∀ t : Fin N, ¬ t.val % 12 = 0 → (acc t.val t.isLt ≤ z ↔
      acc (t.val - 1) (Nat.lt_of_le_of_lt (Nat.sub_le _ _) t.isLt) ≤ z ∧ ∀ p, term t p ≤ z)) :
    ∀ (k : ℕ) (hk : k < N), acc k hk ≤ z ↔
      0 ≤ z ∧ ∀ j : Fin N, k / 12 * 12 ≤ j.val → j.val ≤ k → ∀ p, term j p ≤ z := by
  intro k
  induction k with
  | zero =>
    intro hk
    refine (hA ⟨0, hk⟩ rfl).trans (and_congr Iff.rfl ⟨fun h j _ hj p => ?_, fun h p => h ⟨0, hk⟩ (by simp) (by simp) p⟩)
    have : j = ⟨0, hk⟩ := Fin.ext (by simpa using hj)
    rw [this]
    exact h p
  | succ k ih =>
    intro hk
    by_cases h0 : (k + 1) % 12 = 0
    · refine (hA ⟨k + 1, hk⟩ h0).trans (and_congr Iff.rfl ⟨fun h j hj hj' p => ?_, fun h p => h ⟨k + 1, hk⟩ ?_ ?_ p⟩)
      · have : j = ⟨k + 1, hk⟩ := Fin.ext (by show j.val = k + 1; omega)
        rw [this]
        exact h p
      · show (k + 1) / 12 * 12 ≤ k + 1
        omega
      · exact Nat.le_refl _
    · refine (hB ⟨k + 1, hk⟩ h0).trans ?_
      refine (and_congr (ih (Nat.lt_of_succ_lt hk)) Iff.rfl).trans ?_
      rw [and_assoc]
      refine and_congr Iff.rfl ⟨fun ⟨h, h'⟩ j hj hj' p => ?_, fun h => ⟨fun j hj hj' p => h j (by omega) (by omega) p, fun p => h ⟨k + 1, hk⟩ ?_ ?_ p⟩⟩
      · rcases Nat.lt_or_ge j.val (k + 1) with hlt | hge
        · exact h j (by omega) (by omega) p
        · have : j = ⟨k + 1, hk⟩ := Fin.ext (by show j.val = k + 1; omega)
          rw [this]
          exact h' p
      · show (k + 1) / 12 * 12 ≤ k + 1
        omega
      · exact Nat.le_refl _

end Cert.Spec

end
-- ==== Proof.KRegion1.lean ====
module

public import Idealize.ShloMosaic.Lib.Pipeline.ValueKit
public import proofs.«01_k».proof.Proof.Gen.KernelIdeal.Frame.Region1
public import proofs.«01_k».proof.Proof.KPay1
public import proofs.«01_k».proof.Proof.Sums

@[expose] public section

set_option maxRecDepth 16384

noncomputable section

namespace Cert.KernelIdeal.Value

open Idealize.ShloMosaic Idealize.ShloMosaic.TcCoe Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The block each window stages at a grid point. -/
theorem idx1 : ∀ t : Fin cfg1.N,
    win1_0.index t = ![0] ∧
    win1_1.index t = ![t.val / 12, t.val % 12, 0] ∧ win1_2.index t = ![t.val / 12, t.val % 12, 0] ∧
    win1_3.index t = ![t.val / 12, t.val % 12, 0] ∧ win1_4.index t = ![t.val / 12, t.val % 12, 0] ∧
    win1_5.index t = ![t.val / 12, t.val % 12, 0] ∧ win1_6.index t = ![t.val / 12, t.val % 12, 0] ∧
    win1_7.index t = ![t.val / 12, t.val % 12, 0] ∧ win1_8.index t = ![t.val / 12, t.val % 12, 0] ∧
    win1_13.index t = ![t.val / 12, 0, 0] :=
  (by decide +kernel : ∀ t : Fin grid1.N, _)

theorem lt132 (t : Fin cfg1.N) : t.val < 132 := lt_of_lt_of_eq t.isLt N_1

/-- A grid point's expert. -/
def ex1 (t : Fin cfg1.N) : Fin 11 := ⟨t.val / 12, by have := lt132 t; omega⟩
/-- The hidden coordinate of row `a` of a grid point's block. -/
def row1 (t : Fin cfg1.N) (a : Fin 256) : Fin 3072 := ⟨t.val % 12 * 256 + a.val, by omega⟩

/-- The new weights from the region's argument arrays. -/
def w1 (c : Dev nD) : Fin 11 → Fin 3072 → Fin 1024 → EReal :=
  wU (V c main_v0_0) (V c main_arg5) (V c main_arg6) (V c main_arg7) (V c main_v17 (ix1 0)) (V c main_v17 (ix1 1)) (V c main_v17 (ix1 2))
/-- The weights' change from the region's argument arrays. -/
def d1 (c : Dev nD) : Fin 11 → Fin 3072 → Fin 1024 → EReal :=
  dU (V c main_v0_0) (V c main_arg5) (V c main_arg6) (V c main_arg7) (V c main_v17 (ix1 0)) (V c main_v17 (ix1 1)) (V c main_v17 (ix1 2))
/-- The first moment from the region's argument arrays. -/
def m1 (c : Dev nD) : Fin 11 → Fin 3072 → Fin 1024 → EReal := mU (V c main_v0_0) (V c main_arg6) (V c main_v17 (ix1 0))
/-- The second moment from the region's argument arrays. -/
def v1 (c : Dev nD) : Fin 11 → Fin 3072 → Fin 1024 → EReal := vU (V c main_v0_0) (V c main_arg7) (V c main_v17 (ix1 0))
/-- The magnitude of a new weight. -/
def abs1 (c : Dev nD) (n : Fin 11) (f : Fin 3072) (d : Fin 1024) : EReal := max (w1 V c n f d) (-w1 V c n f d)

theorem sc_blk (c : Dev nD) (t : Fin cfg1.N) (i : Fin 3) : iblk1 V c 0 t (ix1 i) = V c main_v17 (ix1 i) := by
  blk_point [iblk1, idx1 t]

theorem g_blk (c : Dev nD) (t : Fin cfg1.N) (a : Fin 256) (b : Fin 1024) :
    iblk1 V c 1 t (ix3 0 a b) = V c main_v0_0 (ix3 (ex1 t) (row1 t a) b) := by
  have ht := lt132 t
  blk_point [iblk1, idx1 t, ex1, row1]

theorem w_blk (c : Dev nD) (t : Fin cfg1.N) (a : Fin 256) (b : Fin 1024) :
    iblk1 V c 2 t (ix3 0 a b) = V c main_arg5 (ix3 (ex1 t) (row1 t a) b) := by
  have ht := lt132 t
  blk_point [iblk1, idx1 t, ex1, row1]

theorem m_blk (c : Dev nD) (t : Fin cfg1.N) (a : Fin 256) (b : Fin 1024) :
    iblk1 V c 3 t (ix3 0 a b) = V c main_arg6 (ix3 (ex1 t) (row1 t a) b) := by
  have ht := lt132 t
  blk_point [iblk1, idx1 t, ex1, row1]

theorem v_blk (c : Dev nD) (t : Fin cfg1.N) (a : Fin 256) (b : Fin 1024) :
    iblk1 V c 4 t (ix3 0 a b) = V c main_arg7 (ix3 (ex1 t) (row1 t a) b) := by
  have ht := lt132 t
  blk_point [iblk1, idx1 t, ex1, row1]

/-- What a grid point leaves in its output buffers, when the largest magnitudes are reset there. -/
theorem outs1_A (c : Dev nD) (t : Fin cfg1.N) (h0 : t.val % 12 = 0) (a : Fin 256) (b : Fin 1024) (r : Fin 8) :
    (outsAt1 V c t.val t.isLt).1 (ix3 0 a b) = w1 V c (ex1 t) (row1 t a) b
    ∧ (outsAt1 V c t.val t.isLt).2.1 (ix3 0 a b) = d1 V c (ex1 t) (row1 t a) b
    ∧ (outsAt1 V c t.val t.isLt).2.2.1 (ix3 0 a b) = m1 V c (ex1 t) (row1 t a) b
    ∧ (outsAt1 V c t.val t.isLt).2.2.2.1 (ix3 0 a b) = v1 V c (ex1 t) (row1 t a) b
    ∧ ∀ z : EReal, (show EReal from (outsAt1 V c t.val t.isLt).2.2.2.2.2.2.2.2 (ix3 0 r b)) ≤ z
        ↔ (show EReal from k1_pay14 (F := Ideal) (ix3 0 r b)) ≤ z ∧ ∀ p : Fin 32, abs1 V c (ex1 t) (row1 t ⟨p.val * 8 + r.val, by omega⟩) b ≤ z := by
  rw [outsAt1_A V c t h0]
  frame_out
  refine stored_update _ _ _ _ _ _ _ _ (V c main_v0_0) (V c main_arg5) (V c main_arg6) (V c main_arg7)
    (V c main_v17 (ix1 0)) (V c main_v17 (ix1 1)) (V c main_v17 (ix1 2)) (ex1 t) (row1 t) ?_ ?_ ?_
    (fun a b => ?_) (fun a b => ?_) (fun a b => ?_) (fun a b => ?_) a b r
  · pointwise; exact sc_blk V c t _
  · pointwise; exact sc_blk V c t _
  · pointwise; exact sc_blk V c t _
  · exact w_blk V c t a b
  · exact g_blk V c t a b
  · exact m_blk V c t a b
  · exact v_blk V c t a b

/-- What a grid point leaves in its output buffers, when the largest magnitudes are carried over from the point before. -/
theorem outs1_B (c : Dev nD) (t : Fin cfg1.N) (h0 : ¬ t.val % 12 = 0) (a : Fin 256) (b : Fin 1024) (r : Fin 8) :
    (outsAt1 V c t.val t.isLt).1 (ix3 0 a b) = w1 V c (ex1 t) (row1 t a) b
    ∧ (outsAt1 V c t.val t.isLt).2.1 (ix3 0 a b) = d1 V c (ex1 t) (row1 t a) b
    ∧ (outsAt1 V c t.val t.isLt).2.2.1 (ix3 0 a b) = m1 V c (ex1 t) (row1 t a) b
    ∧ (outsAt1 V c t.val t.isLt).2.2.2.1 (ix3 0 a b) = v1 V c (ex1 t) (row1 t a) b
    ∧ ∀ z : EReal, (show EReal from (outsAt1 V c t.val t.isLt).2.2.2.2.2.2.2.2 (ix3 0 r b)) ≤ z
        ↔ (show EReal from (outsAt1 V c (t.val - 1) (Nat.lt_of_le_of_lt (Nat.sub_le _ _) t.isLt)).2.2.2.2.2.2.2.2 (ix3 0 r b)) ≤ z ∧ ∀ p : Fin 32, abs1 V c (ex1 t) (row1 t ⟨p.val * 8 + r.val, by omega⟩) b ≤ z := by
  rw [outsAt1_B V c t h0]
  frame_out
  refine stored_update _ _ _ _ _ _ _ _ (V c main_v0_0) (V c main_arg5) (V c main_arg6) (V c main_arg7)
    (V c main_v17 (ix1 0)) (V c main_v17 (ix1 1)) (V c main_v17 (ix1 2)) (ex1 t) (row1 t) ?_ ?_ ?_
    (fun a b => ?_) (fun a b => ?_) (fun a b => ?_) (fun a b => ?_) a b r
  · pointwise; exact sc_blk V c t _
  · pointwise; exact sc_blk V c t _
  · pointwise; exact sc_blk V c t _
  · exact w_blk V c t a b
  · exact g_blk V c t a b
  · exact m_blk V c t a b
  · exact v_blk V c t a b

/-- The four weight-shaped blocks a grid point leaves. -/
theorem outs1 (c : Dev nD) (t : Fin cfg1.N) (a : Fin 256) (b : Fin 1024) :
    (outsAt1 V c t.val t.isLt).1 (ix3 0 a b) = w1 V c (ex1 t) (row1 t a) b
    ∧ (outsAt1 V c t.val t.isLt).2.1 (ix3 0 a b) = d1 V c (ex1 t) (row1 t a) b
    ∧ (outsAt1 V c t.val t.isLt).2.2.1 (ix3 0 a b) = m1 V c (ex1 t) (row1 t a) b
    ∧ (outsAt1 V c t.val t.isLt).2.2.2.1 (ix3 0 a b) = v1 V c (ex1 t) (row1 t a) b := by
  by_cases h0 : t.val % 12 = 0
  · obtain ⟨h1, h2, h3, h4, -⟩ := outs1_A V c t h0 a b 0
    exact ⟨h1, h2, h3, h4⟩
  · obtain ⟨h1, h2, h3, h4, -⟩ := outs1_B V c t h0 a b 0
    exact ⟨h1, h2, h3, h4⟩

/-- The largest magnitudes at the last grid point of an expert, by their upper bounds: zero and every new weight of
    that expert in the same place of its group of eight. -/
theorem outs1_max (c : Dev nD) (t : Fin cfg1.N) (hl : t.val % 12 = 11) (r : Fin 8) (b : Fin 1024) (z : EReal) :
    (show EReal from (outsAt1 V c t.val t.isLt).2.2.2.2.2.2.2.2 (ix3 0 r b)) ≤ z
      ↔ 0 ≤ z ∧ ∀ q : Fin 384, abs1 V c (ex1 t) ⟨q.val * 8 + r.val, by omega⟩ b ≤ z := by
  have ht := lt132 t
  refine (Spec.run_max (N := cfg1.N) (ι := Fin 32) (fun k hk => (outsAt1 V c k hk).2.2.2.2.2.2.2.2 (ix3 0 r b))
    (fun t p => abs1 V c (ex1 t) (row1 t ⟨p.val * 8 + r.val, by omega⟩) b) z
    (fun t h => ?_) (fun t h => (outs1_B V c t h 0 b r).2.2.2.2 z) t.val t.isLt).trans (and_congr Iff.rfl ⟨fun h q => ?_, fun h j hj hj' p => ?_⟩)
  · refine ((outs1_A V c t h 0 b r).2.2.2.2 z).trans ?_
    rw [pay14_apply]
  · refine le_of_eq_of_le ?_ (h ⟨t.val / 12 * 12 + q.val / 32, lt_of_lt_of_eq (by omega) N_1.symm⟩
      (Nat.le_add_right _ _) (by show t.val / 12 * 12 + q.val / 32 ≤ t.val; omega) ⟨q.val % 32, by omega⟩)
    refine congr (congr (congrArg _ (Fin.ext ?_)) (Fin.ext ?_)) rfl
    · show t.val / 12 = (t.val / 12 * 12 + q.val / 32) / 12
      omega
    · show q.val * 8 + r.val = (t.val / 12 * 12 + q.val / 32) % 12 * 256 + (q.val % 32 * 8 + r.val)
      omega
  · have hj2 := lt132 j
    refine le_of_eq_of_le ?_ (h ⟨j.val % 12 * 32 + p.val, by omega⟩)
    refine congr (congr (congrArg _ (Fin.ext ?_)) (Fin.ext ?_)) rfl
    · show j.val / 12 = t.val / 12
      omega
    · show j.val % 12 * 256 + (p.val * 8 + r.val) = (j.val % 12 * 32 + p.val) * 8 + r.val
      omega

/-- An index of a one-expert block, by its two free coordinates. -/
theorem eq_ix3_blk1 (y : S1x256x1024.Idx) : y = ix3 0 (y 1) (y 2) := by
  refine (eq_ix3 y).trans ?_
  have : y 0 = (0 : Fin 1) := Subsingleton.elim (α := Fin 1) _ _
  rw [this]; rfl

/-- An index of a one-expert block of magnitudes, by its two free coordinates. -/
theorem eq_ix3_max1 (y : S1x8x1024.Idx) : y = ix3 0 (y 1) (y 2) := by
  refine (eq_ix3 y).trans ?_
  have : y 0 = (0 : Fin 1) := Subsingleton.elim (α := Fin 1) _ _
  rw [this]; rfl

/-- The new weights after the call. -/
theorem w_arr (c : Dev nD) : (dat1 V c).arrAt 5 cfg1.N = fun j : S11x3072x1024.Idx => w1 V c (j 0) (j 1) (j 2) := by
  refine (dat1 V c).arrAt_eq_of_covers 5 _ (by decide +kernel) fun t hf y => ?_
  have ht := lt132 t
  blk_simp
  rw [after1_5]
  refine (congrArg (outsAt1 V c t.val t.isLt).1 (eq_ix3_blk1 y)).trans ((outs1 V c t (y 1) (y 2)).1.trans ?_)
  refine congr (congr (congrArg _ (Fin.ext ?_)) (Fin.ext ?_)) (Fin.ext ?_) <;> simp only [ex1, row1] <;>
    blk_simp [idx1 t] <;> omega

/-- The change of the weights after the call. -/
theorem d_arr (c : Dev nD) : (dat1 V c).arrAt 6 cfg1.N = fun j : S11x3072x1024.Idx => d1 V c (j 0) (j 1) (j 2) := by
  refine (dat1 V c).arrAt_eq_of_covers 6 _ (by decide +kernel) fun t hf y => ?_
  have ht := lt132 t
  blk_simp
  rw [after1_6]
  refine (congrArg (outsAt1 V c t.val t.isLt).2.1 (eq_ix3_blk1 y)).trans ((outs1 V c t (y 1) (y 2)).2.1.trans ?_)
  refine congr (congr (congrArg _ (Fin.ext ?_)) (Fin.ext ?_)) (Fin.ext ?_) <;> simp only [ex1, row1] <;>
    blk_simp [idx1 t] <;> omega

/-- The first moment after the call. -/
theorem m_arr (c : Dev nD) : (dat1 V c).arrAt 7 cfg1.N = fun j : S11x3072x1024.Idx => m1 V c (j 0) (j 1) (j 2) := by
  refine (dat1 V c).arrAt_eq_of_covers 7 _ (by decide +kernel) fun t hf y => ?_
  have ht := lt132 t
  blk_simp
  rw [after1_7]
  refine (congrArg (outsAt1 V c t.val t.isLt).2.2.1 (eq_ix3_blk1 y)).trans ((outs1 V c t (y 1) (y 2)).2.2.1.trans ?_)
  refine congr (congr (congrArg _ (Fin.ext ?_)) (Fin.ext ?_)) (Fin.ext ?_) <;> simp only [ex1, row1] <;>
    blk_simp [idx1 t] <;> omega

/-- The second moment after the call. -/
theorem v_arr (c : Dev nD) : (dat1 V c).arrAt 8 cfg1.N = fun j : S11x3072x1024.Idx => v1 V c (j 0) (j 1) (j 2) := by
  refine (dat1 V c).arrAt_eq_of_covers 8 _ (by decide +kernel) fun t hf y => ?_
  have ht := lt132 t
  blk_simp
  rw [after1_8]
  refine (congrArg (outsAt1 V c t.val t.isLt).2.2.2.1 (eq_ix3_blk1 y)).trans ((outs1 V c t (y 1) (y 2)).2.2.2.trans ?_)
  refine congr (congr (congrArg _ (Fin.ext ?_)) (Fin.ext ?_)) (Fin.ext ?_) <;> simp only [ex1, row1] <;>
    blk_simp [idx1 t] <;> omega

/-- The largest magnitudes of an expert in one place of the groups of eight. -/
def max1 (c : Dev nD) (n : Fin 11) (r : Fin 8) (b : Fin 1024) : EReal :=
  Finset.univ.fold max 0 fun q : Fin 384 => abs1 V c n ⟨q.val * 8 + r.val, by omega⟩ b

/-- The largest magnitudes after the call. -/
theorem max_arr (c : Dev nD) : (dat1 V c).arrAt 13 cfg1.N = fun j : S11x8x1024.Idx => max1 V c (j 0) (j 1) (j 2) := by
  refine (dat1 V c).arrAt_eq_of_covers 13 _ (by decide +kernel) fun t hf y => ?_
  have ht := lt132 t
  have hl := (flush1_13 t).mp hf
  blk_simp
  rw [after1_13]
  refine (congrArg (outsAt1 V c t.val t.isLt).2.2.2.2.2.2.2.2 (eq_ix3_max1 y)).trans ?_
  refine Eq.trans (b := max1 V c (ex1 t) (y 1) (y 2)) ?_ ?_
  · refine eq_of_forall_ge_iff fun z => (outs1_max V c t hl (y 1) (y 2) z).trans ?_
    unfold max1
    rw [Finset.fold_max_le]
    simp only [Finset.mem_univ, forall_const]
  · refine congr (congr (congrArg _ (Fin.ext ?_)) (Fin.ext ?_)) (Fin.ext ?_) <;> simp only [ex1] <;>
      blk_simp [idx1 t] <;> omega

end Cert.KernelIdeal.Value

end
-- ==== Proof.Results.lean ====
/- The seven results of the optimiser step that are compared, as functions of the argument arrays. -/
module

public import proofs.«01_k».proof.Proof.Spec

@[expose] public section

set_option maxRecDepth 16384

noncomputable section

namespace Cert.Spec

open Idealize.ShloMosaic Idealize.ShloMosaic.TcCoe Idealize.SL.Sem

/-- The argument arrays, read as extended reals. -/
structure Args where
  /-- activations and their scales -/
  x : Acts
  xs : Scales
  /-- output gradients and their scales -/
  dy : Outs
  ds : Scales
  /-- the main gradient, the weights and the two moments -/
  mg : Weights
  w : Weights
  m : Weights
  v : Weights
  /-- the step's number and the largest norm let through -/
  s : EReal
  maxNorm : EReal
  /-- the history of largest magnitudes -/
  hist : Hist

variable (a : Args)

/-- The weight gradient. -/
def gradR (n : Fin 11) (f : Fin 3072) (d : Fin 1024) : EReal := grad a.x a.xs a.dy a.ds a.mg n f d
/-- The gradient's norm over all experts. -/
def normR : EReal := Ideal.sqrt (sumSq (gradR a))
/-- The clipped gradient. -/
def clipped (n : Fin 11) (f : Fin 3072) (d : Fin 1024) : EReal := gradR a n f d * clip a.maxNorm (normR a)
/-- The new first moment. -/
def mR (n : Fin 11) (f : Fin 3072) (d : Fin 1024) : EReal := mNew (clipped a n f d) (a.m (ix3 n f d))
/-- The new second moment. -/
def vR (n : Fin 11) (f : Fin 3072) (d : Fin 1024) : EReal := vNew (clipped a n f d) (a.v (ix3 n f d))
/-- The weights' change. -/
def deltaR (n : Fin 11) (f : Fin 3072) (d : Fin 1024) : EReal := wDelta a.s (mR a n f d) (vR a n f d) (a.w (ix3 n f d))
/-- The new weights. -/
def wR (n : Fin 11) (f : Fin 3072) (d : Fin 1024) : EReal := a.w (ix3 n f d) + deltaR a n f d
/-- The magnitude of a new weight. -/
def absR (n : Fin 11) (f : Fin 3072) (d : Fin 1024) : EReal := max (wR a n f d) (-(wR a n f d))
/-- The largest magnitude of an expert's new weights. -/
def amaxR (n : Fin 11) : EReal := Finset.univ.fold max ⊥ fun p : Fin 3072 × Fin 1024 => absR a n p.1 p.2

/-- The new history: each expert's largest magnitude, then the old history one column later. -/
def histR : Hist := fun j =>
  if (j 1).val = 0 then amaxR a (j 0) else a.hist (ix2 (j 0) ⟨(j 1).val - 1, Nat.lt_of_le_of_lt (Nat.sub_le _ _) (j 1).isLt⟩)

/-- A history with the right first column and the right later columns is the new history. -/
theorem hist_ext (u : Hist) (h0 : ∀ n : Fin 11, u (ix2 n 0) = amaxR a n)
    (h1 : ∀ (n : Fin 11) (k : Fin 15), u (ix2 n ⟨k.val + 1, by omega⟩) = a.hist (ix2 n ⟨k.val, by omega⟩)) : u = histR a := by
  funext j
  obtain ⟨n, k, rfl⟩ : ∃ (n : Fin 11) (k : Fin 16), j = ix2 n k := ⟨j 0, j 1, eq_ix2 j⟩
  unfold histR
  change u (ix2 n k) = if k.val = 0 then amaxR a n else a.hist (ix2 n ⟨k.val - 1, _⟩)
  by_cases h : k.val = 0
  · rw [if_pos h, show k = 0 from Fin.ext h, h0]
  · rw [if_neg h, ← h1 n ⟨k.val - 1, by omega⟩]
    exact congrArg u (congrArg (ix2 n) (Fin.ext (by simp only; omega)))

end Cert.Spec

end
-- ==== Proof.KRun.lean ====
/- The kernel's run, read at every buffer: each weakly fair execution ends with every unscoped buffer at the last
   boundary's contents of the generated fold through @main. -/
module

public import proofs.«01_k».proof.Proof.Gen.KernelIdeal.Frame

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory every weakly fair execution of the kernel's program terminates, and each unscoped buffer ends at
    the contents the fold through @main gives it. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end Cert.KernelIdeal.Value

end
-- ==== Proof.KHost.lean ====
/- The kernel's host operations between and after its two calls, read at the buffers that matter. -/
module

public import proofs.«01_k».proof.Proof.KRegion0
public import proofs.«01_k».proof.Proof.KRegion1
public import proofs.«01_k».proof.Proof.Results
public import proofs.«01_k».proof.Proof.Sums
public import proofs.«01_k».proof.Proof.Division
public import proofs.«01_k».proof.Proof.KRun
public import Idealize.ShloMosaic.Lib.StableHlo.RunClose

@[expose] public section

set_option maxRecDepth 16384

noncomputable section

namespace Cert.KernelIdeal.Value

open Cert.KernelIdeal Cert.KernelIdeal.Gen Idealize.ShloMosaic Idealize.ShloMosaic.TcCoe Idealize.SL.Sem Idealize.ShloMosaic.StableHlo

variable (V : Valuation τ sig (Elt Ideal))

/-- The norm of the gradient from the array of partial sums of squares. -/
def normOf (ssq : FVec Ideal S8x1024 .f32) : FVec Ideal S_ .f32 :=
  Host.sqrt (Host.reduceAdd ssq (constant S_ .f32 0x00000000#32) reducesTo_S8x1024_S_d0_1 h_S_)

/-- The first stretch leaves the norm in its buffer. -/
theorem norm_read : after hostOps1 V (Proc.devRef .tc main_v2) = normOf (V (Proc.devRef .tc main_v0_1)) := by
  after_results
  rfl

/-- The scalars' array from the norm, the step's number and the largest norm. -/
def scalarsOf (nrm : FVec Ideal S_ .f32) (step : IVec S_ 32) (maxNorm : FVec Ideal S_ .f32) : FVec Ideal S3 .f32 :=
  concatenate S3 0 [⟨S1, broadcastInDim S1 ![] bcast_S_S1 (minimumf (constant S_ .f32 0x3F800000#32) (Host.divf maxNorm (addf nrm (constant S_ .f32 0x358637BD#32))))⟩,
    ⟨S1, broadcastInDim S1 ![] bcast_S_S1 (Host.divf (constant S_ .f32 0x3A83126F#32) (subf (constant S_ .f32 0x3F800000#32) (Host.powf (constant S_ .f32 0x3F666666#32) (sitofp .f32 step))))⟩,
    ⟨S1, broadcastInDim S1 ![] bcast_S_S1 (Host.divf (constant S_ .f32 0x3F800000#32) (Host.sqrt (subf (constant S_ .f32 0x3F800000#32) (Host.powf (constant S_ .f32 0x3F733333#32) (sitofp .f32 step)))))⟩] concatenates_S1_S1_S1_S3_d0

/-- The first stretch leaves the scalars in their array. -/
theorem scalars_read : after hostOps1 V (Proc.devRef .tc main_v17)
    = scalarsOf (normOf (V (Proc.devRef .tc main_v0_1))) (V (Proc.devRef .tc main_arg8)) (V (Proc.devRef .tc main_arg9)) := by
  after_results
  rfl

/-- The history's array from the array of running maxima and the old history. -/
def histOf (mx : FVec Ideal S11x8x1024 .f32) (old : FVec Ideal S11x16 .f32) : FVec Ideal S11x16 .f32 :=
  concatenate S11x16 1 [⟨S11x1, broadcastInDim S11x1 ![0] bcast_S11_S11x1_0 (Host.reduce FloatOps.maximumf mx (constant S_ .f32 0xFF800000#32) reducesTo_S11x8x1024_S11_d1_2 h_S_)⟩,
    ⟨S11x15, extractStridedSlice S11x15 ![0, 0] old slices_S11x16_S11x15_0_0⟩] concatenates_S11x1_S11x15_S11x16_d1

/-- The last stretch leaves the history in its array. -/
theorem hist_read : after hostOps2 V (Proc.devRef .tc main_v25)
    = histOf (V (Proc.devRef .tc main_v18_8)) (V (Proc.devRef .tc main_arg10)) := by
  after_results
  rfl

/-- The norm from the partial sums. -/
theorem normOf_apply (ssq : FVec Ideal S8x1024 .f32) (i : S_.Idx) :
    normOf ssq i = Ideal.sqrt (∑ r : Fin 8, ∑ d : Fin 1024, ssq (ix2 r d)) := by
  pointwise [normOf]

/-- The first scalar is the clipping factor. -/
theorem scalars_0 (nrm : FVec Ideal S_ .f32) (step : IVec S_ 32) (mn : FVec Ideal S_ .f32) :
    scalarsOf nrm step mn (ix1 0) = Spec.clip (mn ix0) (nrm ix0) := by
  pointwise [scalarsOf, Spec.clip]

/-- The second scalar is the rate. -/
theorem scalars_1 (nrm : FVec Ideal S_ .f32) (step : IVec S_ 32) (mn : FVec Ideal S_ .f32) :
    scalarsOf nrm step mn (ix1 1) = Spec.rate (FloatOps.sitofp (F := Ideal) .f32 (step ix0)) := by
  pointwise [scalarsOf, Spec.rate, Spec.bias]

/-- The third scalar is the reciprocal of the second moment's root. -/
theorem scalars_2 (nrm : FVec Ideal S_ .f32) (step : IVec S_ 32) (mn : FVec Ideal S_ .f32) :
    scalarsOf nrm step mn (ix1 2) = Ideal.div 1 (Spec.root (FloatOps.sitofp (F := Ideal) .f32 (step ix0))) := by
  pointwise [scalarsOf, Spec.root, Spec.bias]

/-- The history's first column is each expert's largest entry. -/
theorem histOf_first (mx : FVec Ideal S11x8x1024 .f32) (old : FVec Ideal S11x16 .f32) (n : Fin 11) :
    histOf mx old (ix2 n 0) = Finset.univ.fold max (⊥ : EReal) fun p : Fin 8 × Fin 1024 => mx (ix3 n p.1 p.2) := by
  pointwise [histOf]
  rw [Spec.ofBits_neg_inf]

/-- The other columns are the old history's, one column later. -/
theorem histOf_later (mx : FVec Ideal S11x8x1024 .f32) (old : FVec Ideal S11x16 .f32) (n : Fin 11) (k : Fin 15) :
    histOf mx old (ix2 n ⟨k.val + 1, by omega⟩) = old (ix2 n ⟨k.val, by omega⟩) := by
  pointwise [histOf]
  rw [dif_neg (by omega)]
  rfl

end Cert.KernelIdeal.Value

end
-- ==== Proof.KernelValue.lean ====
/- The kernel's seven compared results over the extended reals: what its run leaves in each result's buffer, as the
   functions of the argument arrays in Proof/Results.lean. -/
module

public import proofs.«01_k».proof.Proof.KHost

@[expose] public section

set_option maxRecDepth 16384

noncomputable section

namespace Cert.KernelIdeal.Value

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The argument arrays at launch. -/
def argsOf (c : Dev nD) : Spec.Args :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5),
   m ((c.tc : Thread nD τ).loc main_arg6), m ((c.tc : Thread nD τ).loc main_arg7),
   FloatOps.sitofp (F := Ideal) .f32 (m ((c.tc : Thread nD τ).loc main_arg8) ix0), m ((c.tc : Thread nD τ).loc main_arg9) ix0,
   m ((c.tc : Thread nD τ).loc main_arg10)⟩

/-- The gradient's array after the first call. -/
theorem grad_at (c : Dev nD) :
    W1 m ρ c (Proc.devRef .tc main_v0_0) = fun j : S11x3072x1024.Idx => Spec.gradR (argsOf m c) (j 0) (j 1) (j 2) :=
  (W1_arr m ρ c 5).trans (grad_arr (V0 m ρ) c)

/-- The gradient's norm as the host computes it. -/
theorem norm_at (c : Dev nD) : normOf (W1 m ρ c (Proc.devRef .tc main_v0_1)) ix0 = Spec.normR (argsOf m c) := by
  rw [normOf_apply, show W1 m ρ c (Proc.devRef .tc main_v0_1) = _ from (W1_arr m ρ c 6).trans (ssq_arr (V0 m ρ) c)]
  unfold Spec.normR
  rw [← Spec.sum_blocks]
  refine congrArg Ideal.sqrt (Finset.sum_congr rfl fun r _ => Finset.sum_congr rfl fun d _ => ?_)
  exact (Fintype.sum_equiv (finCongr N_0.symm) _ _ fun t => rfl).symm

/-- The norm's result. -/
theorem norm_end (c : Dev nD) : W4 m ρ c (Proc.devRef .tc main_v2) = fun _ : S_.Idx => Spec.normR (argsOf m c) := by
  refine (W4_of m ρ c main_v2 (by decide)).trans ((W3_of m ρ c main_v2 (by decide)).trans ((norm_read _).trans ?_))
  funext i
  rw [show i = ix0 from funext fun k => k.elim0]
  exact norm_at m ρ c

/-- The gradient's result. -/
theorem grad_end (c : Dev nD) :
    W4 m ρ c (Proc.devRef .tc main_v0_0) = fun j : S11x3072x1024.Idx => Spec.gradR (argsOf m c) (j 0) (j 1) (j 2) :=
  (W4_of m ρ c main_v0_0 (by decide)).trans ((W3_of m ρ c main_v0_0 (by decide)).trans ((W2_of m ρ c main_v0_0 (by decide)).trans (grad_at m ρ c)))

/-- What the second call finds in the gradient's array. -/
theorem in_grad (c : Dev nD) :
    V2 m ρ c main_v0_0 = fun j : S11x3072x1024.Idx => Spec.gradR (argsOf m c) (j 0) (j 1) (j 2) :=
  (W2_of m ρ c main_v0_0 (by decide)).trans (grad_at m ρ c)

theorem in_w (c : Dev nD) : V2 m ρ c main_arg5 = (argsOf m c).w := W2_args m ρ c main_arg5 (by decide)
theorem in_m (c : Dev nD) : V2 m ρ c main_arg6 = (argsOf m c).m := W2_args m ρ c main_arg6 (by decide)
theorem in_v (c : Dev nD) : V2 m ρ c main_arg7 = (argsOf m c).v := W2_args m ρ c main_arg7 (by decide)

/-- The second call's scalars. -/
theorem in_scalars (c : Dev nD) : V2 m ρ c main_v17
    = scalarsOf (normOf (W1 m ρ c (Proc.devRef .tc main_v0_1))) (m ((c.tc : Thread nD τ).loc main_arg8)) (m ((c.tc : Thread nD τ).loc main_arg9)) := by
  refine (scalars_read _).trans ?_
  rw [show W1 m ρ c (Proc.devRef .tc main_arg8) = _ from W1_args m ρ c main_arg8 (by decide),
    show W1 m ρ c (Proc.devRef .tc main_arg9) = _ from W1_args m ρ c main_arg9 (by decide)]

theorem in_clip (c : Dev nD) : (show EReal from V2 m ρ c main_v17 (ix1 0)) = Spec.clip (argsOf m c).maxNorm (Spec.normR (argsOf m c)) := by
  rw [in_scalars, scalars_0, norm_at]; rfl

theorem in_rate (c : Dev nD) : (show EReal from V2 m ρ c main_v17 (ix1 1)) = Spec.rate (argsOf m c).s := by
  rw [in_scalars, scalars_1]; rfl

theorem in_root (c : Dev nD) : (show EReal from V2 m ρ c main_v17 (ix1 2)) = Ideal.div 1 (Spec.root (argsOf m c).s) := by
  rw [in_scalars, scalars_2]; rfl

/-- The first moment the second call stores. -/
theorem m1_eq (c : Dev nD) (n : Fin 11) (f : Fin 3072) (d : Fin 1024) : m1 (V2 m ρ) c n f d = Spec.mR (argsOf m c) n f d := by
  unfold m1
  rw [in_grad, in_m, show V2 m ρ c main_v17 (ix1 0) = _ from in_clip m ρ c]
  rfl

/-- The second moment the second call stores. -/
theorem v1_eq (c : Dev nD) (n : Fin 11) (f : Fin 3072) (d : Fin 1024) : v1 (V2 m ρ) c n f d = Spec.vR (argsOf m c) n f d := by
  unfold v1
  rw [in_grad, in_v, show V2 m ρ c main_v17 (ix1 0) = _ from in_clip m ρ c]
  rfl

/-- At a step other than zero, multiplying by the reciprocal of the root is dividing by it. -/
theorem delta_eq (s : ℝ) (hs : s ≠ 0) (mn vn w : EReal) :
    delta (Spec.rate s) (Ideal.div 1 (Spec.root s)) mn vn w = Spec.wDelta s mn vn w := by
  unfold delta Spec.wDelta
  rw [Spec.mul_recip _ _ (Spec.root_ne_zero s hs)]

/-- The step, read as an extended real, is a real number other than zero when its bits are not all zero. -/
theorem step_real (c : Dev nD) (h : m ((c.tc : Thread nD τ).loc main_arg8) ix0 ≠ (0#32 : BitVec 32)) :
    ∃ s : ℝ, s ≠ 0 ∧ (argsOf m c).s = (s : EReal) := by
  refine ⟨((m ((c.tc : Thread nD τ).loc main_arg8) ix0 : BitVec 32).toInt : ℝ), ?_, rfl⟩
  rw [Ne, Int.cast_eq_zero]
  intro h0
  exact h (BitVec.eq_of_toInt_eq (h0.trans (by decide)))

variable (c : Dev nD) (h : m ((c.tc : Thread nD τ).loc main_arg8) ix0 ≠ (0#32 : BitVec 32))
include h

/-- The weights' change the second call stores. -/
theorem d1_eq (n : Fin 11) (f : Fin 3072) (d : Fin 1024) : d1 (V2 m ρ) c n f d = Spec.deltaR (argsOf m c) n f d := by
  obtain ⟨s, hs, e⟩ := step_real m c h
  refine Eq.trans (b := delta (Spec.rate (argsOf m c).s) (Ideal.div 1 (Spec.root (argsOf m c).s))
    (Spec.mR (argsOf m c) n f d) (Spec.vR (argsOf m c) n f d) ((argsOf m c).w (ix3 n f d))) ?_ ?_
  · rw [← m1_eq m ρ, ← v1_eq m ρ, ← in_rate m ρ, ← in_root m ρ, ← in_w m ρ]
    rfl
  · rw [e, delta_eq s hs, ← e]
    rfl

/-- The new weights the second call stores. -/
theorem w1_eq (n : Fin 11) (f : Fin 3072) (d : Fin 1024) : w1 (V2 m ρ) c n f d = Spec.wR (argsOf m c) n f d := by
  unfold Spec.wR
  rw [← d1_eq m ρ c h, ← in_w m ρ]
  rfl

omit h in
/-- The first moment's result. -/
theorem m_end : W4 m ρ c (Proc.devRef .tc main_v18_2) = fun j : S11x3072x1024.Idx => Spec.mR (argsOf m c) (j 0) (j 1) (j 2) :=
  (W4_of m ρ c main_v18_2 (by decide)).trans ((W3_arr m ρ c 7).trans ((m_arr (V2 m ρ) c).trans (funext fun j => m1_eq m ρ c (j 0) (j 1) (j 2))))

omit h in
/-- The second moment's result. -/
theorem v_end : W4 m ρ c (Proc.devRef .tc main_v18_3) = fun j : S11x3072x1024.Idx => Spec.vR (argsOf m c) (j 0) (j 1) (j 2) :=
  (W4_of m ρ c main_v18_3 (by decide)).trans ((W3_arr m ρ c 8).trans ((v_arr (V2 m ρ) c).trans (funext fun j => v1_eq m ρ c (j 0) (j 1) (j 2))))

/-- The new weights' result. -/
theorem w_end : W4 m ρ c (Proc.devRef .tc main_v18_0) = fun j : S11x3072x1024.Idx => Spec.wR (argsOf m c) (j 0) (j 1) (j 2) :=
  (W4_of m ρ c main_v18_0 (by decide)).trans ((W3_arr m ρ c 5).trans ((w_arr (V2 m ρ) c).trans (funext fun j => w1_eq m ρ c h (j 0) (j 1) (j 2))))

/-- The weights' change's result. -/
theorem d_end : W4 m ρ c (Proc.devRef .tc main_v18_1) = fun j : S11x3072x1024.Idx => Spec.deltaR (argsOf m c) (j 0) (j 1) (j 2) :=
  (W4_of m ρ c main_v18_1 (by decide)).trans ((W3_arr m ρ c 6).trans ((d_arr (V2 m ρ) c).trans (funext fun j => d1_eq m ρ c h (j 0) (j 1) (j 2))))

/-- The largest magnitude over the running maxima is the largest over all of an expert's new weights. -/
theorem amax_eq (n : Fin 11) :
    (Finset.univ.fold max (⊥ : EReal) fun p : Fin 8 × Fin 1024 => max1 (V2 m ρ) c n p.1 p.2) = Spec.amaxR (argsOf m c) n := by
  have e : ∀ f d, abs1 (V2 m ρ) c n f d = Spec.absR (argsOf m c) n f d := fun f d => by
    unfold abs1 Spec.absR; rw [w1_eq m ρ c h]
  have pos : ∀ f d, 0 ≤ Spec.absR (argsOf m c) n f d := fun f d => by
    unfold Spec.absR
    rcases le_total 0 (Spec.wR (argsOf m c) n f d) with h | h
    · exact le_max_of_le_left h
    · exact le_max_of_le_right (EReal.neg_nonneg.mpr h)
  refine eq_of_forall_ge_iff fun z => ?_
  unfold Spec.amaxR max1
  simp only [Finset.fold_max_le, Finset.mem_univ, forall_const, bot_le, true_and, Prod.forall, e]
  constructor
  · intro H f d
    have := (H ⟨f.val % 8, by omega⟩ d).2 ⟨f.val / 8, by omega⟩
    refine le_of_eq_of_le (congrArg (fun k => Spec.absR (argsOf m c) n k d) (Fin.ext ?_)) this
    simp only; omega
  · exact fun H r d => ⟨(pos ⟨r.val, by omega⟩ d).trans (H _ d), fun q => H _ d⟩

/-- The history's result. -/
theorem hist_first (n : Fin 11) : (show EReal from W4 m ρ c (Proc.devRef .tc main_v25) (ix2 n 0)) = Spec.amaxR (argsOf m c) n := by
  rw [show W4 m ρ c (Proc.devRef .tc main_v25) = _ from hist_read _, histOf_first, ← amax_eq m ρ c h,
    show W3 m ρ c (Proc.devRef .tc main_v18_8) = _ from (W3_arr m ρ c 13).trans (max_arr (V2 m ρ) c)]
  rfl

omit h in
theorem hist_later (n : Fin 11) (k : Fin 15) : (show EReal from W4 m ρ c (Proc.devRef .tc main_v25) (ix2 n ⟨k.val + 1, by omega⟩))
    = m ((c.tc : Thread nD τ).loc main_arg10) (ix2 n ⟨k.val, by omega⟩) := by
  rw [show W4 m ρ c (Proc.devRef .tc main_v25) = _ from hist_read _, histOf_later,
    show W3 m ρ c (Proc.devRef .tc main_arg10) = _ from W3_args m ρ c main_arg10 (by decide)]

omit c h in
/-- The kernel's run: each compared result at its function of the argument arrays, the arguments unchanged. -/
theorem run_results (h : ∀ c : Dev nD, m ((c.tc : Thread nD τ).loc main_arg8) ix0 ≠ (0#32 : BitVec 32)) :
    θ_run defs (onTc (τ := τ) (main (F := Ideal))) ⟨m, fun _ => 0, ρ⟩ fun r => ∀ c : Dev nD,
      (r.2.mem ((c.tc : Thread nD τ).loc main_v0_0) = fun j : S11x3072x1024.Idx => Spec.gradR (argsOf m c) (j 0) (j 1) (j 2))
      ∧ (r.2.mem ((c.tc : Thread nD τ).loc main_v2) = fun _ : S_.Idx => Spec.normR (argsOf m c))
      ∧ (r.2.mem ((c.tc : Thread nD τ).loc main_v18_0) = fun j : S11x3072x1024.Idx => Spec.wR (argsOf m c) (j 0) (j 1) (j 2))
      ∧ (r.2.mem ((c.tc : Thread nD τ).loc main_v18_1) = fun j : S11x3072x1024.Idx => Spec.deltaR (argsOf m c) (j 0) (j 1) (j 2))
      ∧ (r.2.mem ((c.tc : Thread nD τ).loc main_v18_2) = fun j : S11x3072x1024.Idx => Spec.mR (argsOf m c) (j 0) (j 1) (j 2))
      ∧ (r.2.mem ((c.tc : Thread nD τ).loc main_v18_3) = fun j : S11x3072x1024.Idx => Spec.vR (argsOf m c) (j 0) (j 1) (j 2))
      ∧ (∀ n : Fin 11, (show EReal from r.2.mem ((c.tc : Thread nD τ).loc main_v25) (ix2 n 0)) = Spec.amaxR (argsOf m c) n)
      ∧ (∀ (n : Fin 11) (k : Fin 15), (show EReal from r.2.mem ((c.tc : Thread nD τ).loc main_v25) (ix2 n ⟨k.val + 1, by omega⟩))
          = m ((c.tc : Thread nD τ).loc main_arg10) (ix2 n ⟨k.val, by omega⟩))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r hr c => by
    have e : ∀ b : Ref sig .tc, Proc.devRef .tc b ∈ Pipeline.ucRefs τ sig →
        r.2.mem ((c.tc : Thread nD τ).loc b) = W4 m ρ c (Proc.devRef .tc b) := fun b hb => hr c _ hb
    refine ⟨?_, ?_, ?_, ?_, ?_, ?_, ?_, ?_, ?_, ?_, ?_, ?_, ?_, ?_, ?_, ?_, ?_, ?_, ?_⟩
    · exact (e _ (mem_uc main_v0_0 (by decide))).trans (grad_end m ρ c)
    · exact (e _ (mem_uc main_v2 (by decide))).trans (norm_end m ρ c)
    · exact (e _ (mem_uc main_v18_0 (by decide))).trans (w_end m ρ c (h c))
    · exact (e _ (mem_uc main_v18_1 (by decide))).trans (d_end m ρ c (h c))
    · exact (e _ (mem_uc main_v18_2 (by decide))).trans (m_end m ρ c)
    · exact (e _ (mem_uc main_v18_3 (by decide))).trans (v_end m ρ c)
    · intro n
      rw [e _ (mem_uc main_v25 (by decide))]
      exact hist_first m ρ c (h c) n
    · intro n k
      rw [e _ (mem_uc main_v25 (by decide))]
      exact hist_later m ρ c n k
    · exact (e _ (mem_uc main_arg0 (by decide))).trans (W4_main_arg0 m ρ c)
    · exact (e _ (mem_uc main_arg1 (by decide))).trans (W4_main_arg1 m ρ c)
    · exact (e _ (mem_uc main_arg2 (by decide))).trans (W4_main_arg2 m ρ c)
    · exact (e _ (mem_uc main_arg3 (by decide))).trans (W4_main_arg3 m ρ c)
    · exact (e _ (mem_uc main_arg4 (by decide))).trans (W4_main_arg4 m ρ c)
    · exact (e _ (mem_uc main_arg5 (by decide))).trans (W4_main_arg5 m ρ c)
    · exact (e _ (mem_uc main_arg6 (by decide))).trans (W4_main_arg6 m ρ c)
    · exact (e _ (mem_uc main_arg7 (by decide))).trans (W4_main_arg7 m ρ c)
    · exact (e _ (mem_uc main_arg8 (by decide))).trans (W4_main_arg8 m ρ c)
    · exact (e _ (mem_uc main_arg9 (by decide))).trans (W4_main_arg9 m ρ c)
    · exact (e _ (mem_uc main_arg10 (by decide))).trans (W4_main_arg10 m ρ c)) (run m ρ)

end Cert.KernelIdeal.Value

end
-- ==== Proof.RefValue.lean ====
/- The reference's results over the extended reals: what its run leaves in each result's buffer, as the functions of
   the argument arrays in Proof/Results.lean. -/
module

public import proofs.«01_k».proof.Proof.Gen.ReferenceIdeal.Read
public import proofs.«01_k».proof.Proof.Results
public import proofs.«01_k».proof.Proof.Division
public import Idealize.ShloMosaic.Lib.Pointwise
public import Idealize.ShloMosaic.Lib.Pipeline.Value
public import Idealize.ShloMosaic.Lib.Pipeline.ValueKit

@[expose] public section

set_option maxRecDepth 16384

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

variable (x1 x3 : FVec Ideal S11x4 .f32) (x4 x5 x6 x7 : FVec Ideal S11x3072x1024 .f32) (x8 : IVec S_ 32) (x9 : FVec Ideal S_ .f32)
  (x10 : FVec Ideal S11x16 .f32) (r0 : FVec Ideal S11x4x2048x1024 .bf16) (r1 : FVec Ideal S11x4x2048x3072 .bf16)

/-- The argument arrays together. -/
def argsOf : Spec.Args := ⟨r0, x1, r1, x3, x4, x5, x6, x7, FloatOps.sitofp (F := Ideal) .f32 (x8 ix0), x9 ix0, x10⟩

/-- The gradient. -/
theorem v10_apply (n : Fin 11) (f : Fin 3072) (d : Fin 1024) :
    val_main_v10 (F := Ideal) x1 x3 x4 r0 r1 (ix3 n f d) = Spec.gradR (argsOf x1 x3 x4 x5 x6 x7 x8 x9 x10 r0 r1) n f d := by
  pointwise [val_main_v10, val_main_v9, val_main_v8, val_main_v7, val_main_v6, val_main_v5, val_main_v4, val_main_v3, val_main_v2, val_main_v1,
    Spec.gradR, Spec.grad, argsOf]
  refine congrArg _ (Finset.sum_congr rfl fun g _ => Finset.sum_congr rfl fun t _ => ?_)
  rw [mul_assoc, mul_assoc, mul_comm (r0 _), mul_left_comm (x3 _), mul_assoc]

/-- The norm. -/
theorem v13_apply : val_main_v13 (F := Ideal) x1 x3 x4 r0 r1 ix0 = Spec.normR (argsOf x1 x3 x4 x5 x6 x7 x8 x9 x10 r0 r1) := by
  pointwise [val_main_v13, val_main_v12, val_main_v11, val_main_cst, Spec.normR, Spec.sumSq]
  simp only [v10_apply x1 x3 x4 x5 x6 x7 x8 x9 x10 r0 r1]

/-- The clipped gradient. -/
theorem v18_apply (n : Fin 11) (f : Fin 3072) (d : Fin 1024) :
    val_main_v18 (F := Ideal) x1 x3 x4 x9 r0 r1 (ix3 n f d) = Spec.clipped (argsOf x1 x3 x4 x5 x6 x7 x8 x9 x10 r0 r1) n f d := by
  pointwise [val_main_v18, val_main_v17, val_main_v16, val_main_v15, val_main_v14, val_main_cst_0, val_main_cst_1, Spec.clipped, Spec.clip]
  rw [v10_apply x1 x3 x4 x5 x6 x7 x8 x9 x10 r0 r1, v13_apply x1 x3 x4 x5 x6 x7 x8 x9 x10 r0 r1]
  rfl

/-- The first moment. -/
theorem v23_apply (n : Fin 11) (f : Fin 3072) (d : Fin 1024) :
    val_main_v23 (F := Ideal) x1 x3 x4 x6 x9 r0 r1 (ix3 n f d) = Spec.mR (argsOf x1 x3 x4 x5 x6 x7 x8 x9 x10 r0 r1) n f d := by
  pointwise [val_main_v23, val_main_v22, val_main_v21, val_main_v20, val_main_v19, val_main_cst_2, val_main_cst_3, Spec.mR, Spec.mNew]
  rw [v18_apply x1 x3 x4 x5 x6 x7 x8 x9 x10 r0 r1]
  rfl

/-- The second moment. -/
theorem v29_apply (n : Fin 11) (f : Fin 3072) (d : Fin 1024) :
    val_main_v29 (F := Ideal) x1 x3 x4 x7 x9 r0 r1 (ix3 n f d) = Spec.vR (argsOf x1 x3 x4 x5 x6 x7 x8 x9 x10 r0 r1) n f d := by
  pointwise [val_main_v29, val_main_v28, val_main_v27, val_main_v26, val_main_v25, val_main_v24, val_main_cst_4, val_main_cst_5, Spec.vR, Spec.vNew]
  rw [v18_apply x1 x3 x4 x5 x6 x7 x8 x9 x10 r0 r1]
  rfl

/-- The weights' change. -/
theorem v47_apply (n : Fin 11) (f : Fin 3072) (d : Fin 1024) :
    val_main_v47 (F := Ideal) x1 x3 x4 x5 x6 x7 x8 x9 r0 r1 (ix3 n f d) = Spec.deltaR (argsOf x1 x3 x4 x5 x6 x7 x8 x9 x10 r0 r1) n f d := by
  pointwise [val_main_v47, val_main_v46, val_main_v45, val_main_v44, val_main_v43, val_main_v42, val_main_v41, val_main_v40, val_main_v39, val_main_v38,
    val_main_v37, val_main_v36, val_main_v35, val_main_v34, val_main_v33, val_main_v32, val_main_v31, val_main_v30, val_main_cst_6, val_main_cst_7,
    val_main_cst_8, val_main_cst_9, val_main_cst_10, val_main_cst_11, val_main_cst_12, Spec.deltaR, Spec.wDelta, Spec.rate, Spec.root, Spec.bias]
  rw [v23_apply x1 x3 x4 x5 x6 x7 x8 x9 x10 r0 r1, v29_apply x1 x3 x4 x5 x6 x7 x8 x9 x10 r0 r1]
  rfl

/-- The new weights. -/
theorem v48_apply (n : Fin 11) (f : Fin 3072) (d : Fin 1024) :
    val_main_v48 (F := Ideal) x1 x3 x4 x5 x6 x7 x8 x9 r0 r1 (ix3 n f d) = Spec.wR (argsOf x1 x3 x4 x5 x6 x7 x8 x9 x10 r0 r1) n f d := by
  pointwise [val_main_v48, Spec.wR]
  rw [v47_apply x1 x3 x4 x5 x6 x7 x8 x9 x10 r0 r1]
  rfl

/-- The history's first column. -/
theorem v53_first (n : Fin 11) :
    val_main_v53 (F := Ideal) x1 x3 x4 x5 x6 x7 x8 x9 x10 r0 r1 (ix2 n 0) = Spec.amaxR (argsOf x1 x3 x4 x5 x6 x7 x8 x9 x10 r0 r1) n := by
  pointwise [val_main_v53, val_main_v52, val_main_v51, val_main_v50, val_main_v49, val_main_cst_13, Spec.amaxR, Spec.absR]
  simp only [v48_apply x1 x3 x4 x5 x6 x7 x8 x9 x10 r0 r1, Spec.ofBits_neg_inf]
  rfl

/-- The history's other columns. -/
theorem v53_later (n : Fin 11) (k : Fin 15) :
    val_main_v53 (F := Ideal) x1 x3 x4 x5 x6 x7 x8 x9 x10 r0 r1 (ix2 n ⟨k.val + 1, by omega⟩) = x10 (ix2 n ⟨k.val, by omega⟩) := by
  pointwise [val_main_v53, val_main_v52, val_main_v51]
  rw [dif_neg (by omega)]
  rfl

variable (m : (ℓ : Loc nD τ sig) → Buf (Elt Ideal) ℓ)

/-- Each window stages its whole array. -/
theorem idx0 : ∀ t : Fin cfg0.N,
    win0_0.index t = ![0, 0, 0, 0] ∧ win0_1.index t = ![0, 0, 0, 0] ∧
    win0_2.index t = ![0, 0, 0, 0] ∧ win0_3.index t = ![0, 0, 0, 0] :=
  (by decide +kernel : ∀ t : Fin grid0.N, _)

/-- The region leaves the activations as they were: a widening cast changes no real. -/
theorem reg_x (c : Dev nD) : reg_main_v0_0 m c = m ((c.tc : Thread nD τ).loc main_arg0) := by
  refine (dats m 0 c).arrAt_eq_of_after_last 2 t0_0 (by decide +kernel) _ fun j => ?_
  blk_simp
  rw [after0_2]
  frame_out
  blk_point [k0_pay1, iblk, V, idx0 t0_0]

/-- The same of the output gradients. -/
theorem reg_dy (c : Dev nD) : reg_main_v0_1 m c = m ((c.tc : Thread nD τ).loc main_arg2) := by
  refine (dats m 0 c).arrAt_eq_of_after_last 3 t0_0 (by decide +kernel) _ fun j => ?_
  blk_simp
  rw [after0_3]
  frame_out
  blk_point [k0_pay2, iblk, V, idx0 t0_0]

/-- The argument arrays at launch. -/
def argsAt (c : Dev nD) : Spec.Args :=
  argsOf (m ((c.tc : Thread nD τ).loc main_arg1)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg0)) (m ((c.tc : Thread nD τ).loc main_arg2))

/-- The reference's run: each compared result at its function of the argument arrays, the arguments unchanged. -/
theorem run_results (ρ : Dev nD → PrngReg) :
    θ_run defs (onTc (τ := τ) (main (F := Ideal))) ⟨m, fun _ => 0, ρ⟩ fun r => ∀ c : Dev nD,
      (r.2.mem ((c.tc : Thread nD τ).loc main_v10) = fun j : S11x3072x1024.Idx => Spec.gradR (argsAt m c) (j 0) (j 1) (j 2))
      ∧ (r.2.mem ((c.tc : Thread nD τ).loc main_v13) = fun _ : S_.Idx => Spec.normR (argsAt m c))
      ∧ (r.2.mem ((c.tc : Thread nD τ).loc main_v48) = fun j : S11x3072x1024.Idx => Spec.wR (argsAt m c) (j 0) (j 1) (j 2))
      ∧ (r.2.mem ((c.tc : Thread nD τ).loc main_v47) = fun j : S11x3072x1024.Idx => Spec.deltaR (argsAt m c) (j 0) (j 1) (j 2))
      ∧ (r.2.mem ((c.tc : Thread nD τ).loc main_v23) = fun j : S11x3072x1024.Idx => Spec.mR (argsAt m c) (j 0) (j 1) (j 2))
      ∧ (r.2.mem ((c.tc : Thread nD τ).loc main_v29) = fun j : S11x3072x1024.Idx => Spec.vR (argsAt m c) (j 0) (j 1) (j 2))
      ∧ (∀ n : Fin 11, (show EReal from r.2.mem ((c.tc : Thread nD τ).loc main_v53) (ix2 n 0)) = Spec.amaxR (argsAt m c) n)
      ∧ (∀ (n : Fin 11) (k : Fin 15), (show EReal from r.2.mem ((c.tc : Thread nD τ).loc main_v53) (ix2 n ⟨k.val + 1, by omega⟩))
          = m ((c.tc : Thread nD τ).loc main_arg10) (ix2 n ⟨k.val, by omega⟩))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => by
    obtain ⟨h0, h1, h2, h3, h4, h5, h6, hargs⟩ := h c
    rw [val_main_v10_eq, exit_main_arg1, exit_main_arg3, exit_main_arg4, exit_main_v0_0, exit_main_v0_1, reg_x, reg_dy] at h0
    rw [val_main_v13_eq, exit_main_arg1, exit_main_arg3, exit_main_arg4, exit_main_v0_0, exit_main_v0_1, reg_x, reg_dy] at h1
    rw [val_main_v48_eq, exit_main_arg1, exit_main_arg3, exit_main_arg4, exit_main_arg5, exit_main_arg6, exit_main_arg7, exit_main_arg8, exit_main_arg9,
      exit_main_v0_0, exit_main_v0_1, reg_x, reg_dy] at h2
    rw [val_main_v47_eq, exit_main_arg1, exit_main_arg3, exit_main_arg4, exit_main_arg5, exit_main_arg6, exit_main_arg7, exit_main_arg8, exit_main_arg9,
      exit_main_v0_0, exit_main_v0_1, reg_x, reg_dy] at h3
    rw [val_main_v23_eq, exit_main_arg1, exit_main_arg3, exit_main_arg4, exit_main_arg6, exit_main_arg9,
      exit_main_v0_0, exit_main_v0_1, reg_x, reg_dy] at h4
    rw [val_main_v29_eq, exit_main_arg1, exit_main_arg3, exit_main_arg4, exit_main_arg7, exit_main_arg9,
      exit_main_v0_0, exit_main_v0_1, reg_x, reg_dy] at h5
    rw [val_main_v53_eq, exit_main_arg1, exit_main_arg3, exit_main_arg4, exit_main_arg5, exit_main_arg6, exit_main_arg7, exit_main_arg8, exit_main_arg9,
      exit_main_arg10, exit_main_v0_0, exit_main_v0_1, reg_x, reg_dy] at h6
    refine ⟨h0.trans (funext fun j => ?_), h1.trans (funext fun j => ?_), h2.trans (funext fun j => ?_), h3.trans (funext fun j => ?_),
      h4.trans (funext fun j => ?_), h5.trans (funext fun j => ?_), fun n => (congrFun h6 _).trans (v53_first ..),
      fun n k => (congrFun h6 _).trans (v53_later ..), hargs⟩
    · exact (congrArg _ (eq_ix3 j)).trans (v10_apply ..)
    · exact (congrArg _ (show j = ix0 from funext fun k => k.elim0)).trans (v13_apply ..)
    · exact (congrArg _ (eq_ix3 j)).trans (v48_apply ..)
    · exact (congrArg _ (eq_ix3 j)).trans (v47_apply ..)
    · exact (congrArg _ (eq_ix3 j)).trans (v23_apply ..)
    · exact (congrArg _ (eq_ix3 j)).trans (v29_apply ..)) (run m ρ)

end Cert.ReferenceIdeal.Value

end
-- ==== Proof.Exponent.lean ====
/- The exponent of a block: the update call finds the word of the block's largest magnitude bit by bit and reads the
   exponent off it; the reference counts the powers of two that the scaled magnitude reaches. -/
module

public import proofs.«01_k».proof.Proof.Spec
public import Idealize.ShloMosaic.Lib.TotalOrder
public import Idealize.ShloMosaic.Lib.IndicatorCount

@[expose] public section

noncomputable section

namespace Cert.Spec

open Idealize.ShloMosaic

/-! ## The numbers that words denote -/

/-- The number a 32-bit word denotes as a float. -/
def word (T : ℕ) : EReal := Ideal.ofBits .f32 (BitVec.ofNat 32 T)

theorem not_isNaN_ofNat (T : ℕ) (h : T ≤ 2139095040) : ¬ TotalOrder.IsNaN 8 23 (BitVec.ofNat 32 T) := by
  unfold TotalOrder.IsNaN
  rw [TotalOrder.expo_eq, TotalOrder.frac_eq]
  simp only [BitVec.toNat_ofNat]
  omega

theorem word_eq_absVal (T : ℕ) (h : T ≤ 2139095040) : word T = TotalOrder.absVal 8 23 (BitVec.ofNat 32 T) := by
  unfold word
  refine (TotalOrder.ieee_eq_signed_absVal (not_isNaN_ofNat T h)).trans ?_
  rw [if_neg]
  rw [TotalOrder.sign_eq_msb (e := 8) (m := 23), Bool.not_eq_true, ← Bool.not_eq_true, TotalOrder.msb_iff (e := 8) (m := 23)]
  simp only [BitVec.toNat_ofNat]
  omega

/-- Larger words up to infinity's denote larger numbers. -/
theorem word_lt (S T : ℕ) (h : S < T) (hT : T ≤ 2139095040) : word S < word T := by
  rw [word_eq_absVal S (by omega), word_eq_absVal T hT,
    TotalOrder.absVal_lt_absVal_iff (not_isNaN_ofNat S (by omega)) (not_isNaN_ofNat T hT)]
  unfold TotalOrder.mag
  rw [TotalOrder.expo_eq, TotalOrder.frac_eq, TotalOrder.expo_eq, TotalOrder.frac_eq]
  simp only [BitVec.toNat_ofNat]
  omega

theorem word_le (S T : ℕ) (h : S ≤ T) (hT : T ≤ 2139095040) : word S ≤ word T := by
  rcases h.lt_or_eq with h | h
  · exact (word_lt S T h hT).le
  · rw [h]

theorem word_zero : word 0 = 0 := by
  simp [word, Ideal.ofBits, Ideal.ieee]

theorem word_top : word 2139095040 = ⊤ := by
  simp [word, Ideal.ofBits, Ideal.ieee]

/-- The number of a positive word by its exponent field and its trailing bits. -/
theorem ofBits_fields (b : BitVec 32) (E f : ℕ) (h0 : E ≠ 0) (h1 : E ≠ 2 ^ 8 - 1) (hx : (b.extractLsb' 23 8).toNat = E)
    (hf : (b.extractLsb' 0 23).toNat = f) (hs : (b.extractLsb' (8 + 23) 1 == 1#1) = false) :
    Ideal.ofBits .f32 b = ((((2 : ℝ) ^ 23 + f) * (2 : ℝ) ^ ((E : ℤ) - 150) : ℝ) : EReal) := by
  show Ideal.ieee 8 23 b = _
  unfold Ideal.ieee
  simp only [hx, hf, hs]
  rw [if_neg h1, if_neg h0]
  refine congrArg Real.toEReal ?_
  have e : (E : ℤ) - (2 ^ (8 - 1) - 1) - ((23 : ℕ) : ℤ) = (E : ℤ) - 150 := by push_cast; ring
  rw [e, if_neg Bool.false_ne_true, one_mul, Nat.cast_add, Nat.cast_pow, Nat.cast_ofNat]

/-- The number of a word with exponent field `E` and trailing bits `f`. -/
theorem word_normal (E f : ℕ) (h0 : 0 < E) (h1 : E < 255) (hf : f < 8388608) :
    word (E * 8388608 + f) = ((((2 : ℝ) ^ 23 + f) * (2 : ℝ) ^ ((E : ℤ) - 150) : ℝ) : EReal) := by
  have hn : (BitVec.ofNat 32 (E * 8388608 + f)).toNat = E * 8388608 + f := by
    rw [BitVec.toNat_ofNat, Nat.mod_eq_of_lt (by omega)]
  unfold word
  generalize BitVec.ofNat 32 (E * 8388608 + f) = b at hn ⊢
  refine ofBits_fields b E f (by omega) (by omega) ?_ ?_ ?_
  · rw [BitVec.extractLsb'_toNat, hn, Nat.shiftRight_eq_div_pow]; omega
  · rw [BitVec.extractLsb'_toNat, hn, Nat.shiftRight_eq_div_pow]; omega
  · rw [beq_eq_false_iff_ne]
    intro h
    have := congrArg BitVec.toNat h
    rw [BitVec.extractLsb'_toNat, hn, Nat.shiftRight_eq_div_pow] at this
    have e : (1#1).toNat = 1 := rfl
    omega

/-! ## The word of a magnitude, bit by bit -/

/-- One bit of the search: it is kept when the number of the word with it is at most `a`. -/
def keep (a : EReal) (b n : BitVec 32) : BitVec 32 := if Ideal.ofBits .f32 (n ||| b) ≤ a then n ||| b else n

/-- The word `T` is below infinity's and its number is at most `a`. -/
def Fits (a : EReal) (T : ℕ) : Prop := T < 2139095040 ∧ word T ≤ a

theorem Fits.mono {a : EReal} {S T : ℕ} (h : Fits a T) (hST : S ≤ T) : Fits a S :=
  ⟨lt_of_le_of_lt hST h.1, (word_le S T hST h.1.le).trans h.2⟩

/-- After bits down to `b`: the word is a multiple of `2^b`, fits, and the next multiple does not. -/
def Found (a : EReal) (b : ℕ) (n : BitVec 32) : Prop :=
  2 ^ b ∣ n.toNat ∧ Fits a n.toNat ∧ ¬ Fits a (n.toNat + 2 ^ b)

theorem or_bit (b : ℕ) (hb : b < 31) (n : BitVec 32) (hd : 2 ^ (b + 1) ∣ n.toNat) (hn : n.toNat < 2 ^ 31) :
    (n ||| BitVec.ofNat 32 (2 ^ b)) = BitVec.ofNat 32 (n.toNat + 2 ^ b) ∧ n.toNat + 2 ^ b < 2 ^ 32 := by
  obtain ⟨q, hq⟩ := hd
  have hp : 2 ^ b < 2 ^ 31 := Nat.pow_lt_pow_right (by norm_num) hb
  have hlt : n.toNat + 2 ^ b < 2 ^ 32 := by omega
  refine ⟨BitVec.eq_of_toNat_eq ?_, hlt⟩
  rw [BitVec.toNat_or, BitVec.toNat_ofNat, BitVec.toNat_ofNat, Nat.mod_eq_of_lt (by omega), Nat.mod_eq_of_lt hlt, hq,
    Nat.two_pow_add_eq_or_of_lt (Nat.pow_lt_pow_right (by norm_num) (Nat.lt_succ_self b))]

/-- A bit of the search. -/
theorem Found.keep {a : EReal} (ha : a < ⊤) (b : ℕ) (hb : b < 31) (w : BitVec 32) (hw : w = BitVec.ofNat 32 (2 ^ b))
    {n : BitVec 32} (h : Found a (b + 1) n) : Found a b (Spec.keep a w n) := by
  subst hw
  obtain ⟨hd, hf, hnf⟩ := h
  have hn : n.toNat < 2139095040 := hf.1
  obtain ⟨ho, hlt⟩ := or_bit b hb n hd (by omega)
  have hd' : 2 ^ b ∣ n.toNat := dvd_trans (pow_dvd_pow 2 (Nat.le_succ b)) hd
  have hc : n.toNat + 2 ^ b ≤ 2139095040 := by
    obtain ⟨q, hq⟩ := hd
    rw [hq] at hn ⊢
    interval_cases b <;> omega
  have hi : Ideal.ofBits .f32 (n ||| BitVec.ofNat 32 (2 ^ b)) ≤ a ↔ Fits a (n.toNat + 2 ^ b) := by
    rw [ho]
    show word _ ≤ a ↔ _
    refine ⟨fun h => ⟨lt_of_le_of_ne hc fun e => ?_, h⟩, fun h => h.2⟩
    rw [e, word_top] at h
    exact absurd (lt_of_le_of_lt h ha) (lt_irrefl _)
  unfold Spec.keep
  by_cases hk : Fits a (n.toNat + 2 ^ b)
  · rw [if_pos (hi.2 hk), ho]
    have e : (BitVec.ofNat 32 (n.toNat + 2 ^ b)).toNat = n.toNat + 2 ^ b := by
      rw [BitVec.toNat_ofNat, Nat.mod_eq_of_lt hlt]
    unfold Found
    rw [e]
    refine ⟨Dvd.dvd.add hd' dvd_rfl, hk, ?_⟩
    rw [add_assoc, ← two_mul, ← pow_succ']
    exact hnf
  · rw [if_neg (mt hi.1 hk)]
    exact ⟨hd', hf, hk⟩

/-- The search over bits 30 to 0. -/
def search (a : EReal) : BitVec 32 :=
  keep a 1#32 <| keep a 2#32 <| keep a 4#32 <| keep a 8#32 <| keep a 16#32 <| keep a 32#32 <| keep a 64#32 <|
  keep a 128#32 <| keep a 256#32 <| keep a 512#32 <| keep a 1024#32 <| keep a 2048#32 <| keep a 4096#32 <|
  keep a 8192#32 <| keep a 16384#32 <| keep a 32768#32 <| keep a 65536#32 <| keep a 131072#32 <| keep a 262144#32 <|
  keep a 524288#32 <| keep a 1048576#32 <| keep a 2097152#32 <| keep a 4194304#32 <| keep a 8388608#32 <|
  keep a 16777216#32 <| keep a 33554432#32 <| keep a 67108864#32 <| keep a 134217728#32 <| keep a 268435456#32 <|
  keep a 536870912#32 <| keep a 1073741824#32 0#32

/-- The search finds the largest word whose number is at most `a`. -/
theorem search_spec {a : EReal} (hz : 0 ≤ a) (ha : a < ⊤) (T : ℕ) : Fits a T ↔ T ≤ (search a).toNat := by
  have h31 : Found a 31 0#32 := ⟨by simp, ⟨by simp, by simpa [word_zero] using hz⟩, fun h => by simpa using h.1⟩
  have h30 := h31.keep ha 30 (by norm_num) 1073741824#32 (by norm_num)
  have h29 := h30.keep ha 29 (by norm_num) 536870912#32 (by norm_num)
  have h28 := h29.keep ha 28 (by norm_num) 268435456#32 (by norm_num)
  have h27 := h28.keep ha 27 (by norm_num) 134217728#32 (by norm_num)
  have h26 := h27.keep ha 26 (by norm_num) 67108864#32 (by norm_num)
  have h25 := h26.keep ha 25 (by norm_num) 33554432#32 (by norm_num)
  have h24 := h25.keep ha 24 (by norm_num) 16777216#32 (by norm_num)
  have h23 := h24.keep ha 23 (by norm_num) 8388608#32 (by norm_num)
  have h22 := h23.keep ha 22 (by norm_num) 4194304#32 (by norm_num)
  have h21 := h22.keep ha 21 (by norm_num) 2097152#32 (by norm_num)
  have h20 := h21.keep ha 20 (by norm_num) 1048576#32 (by norm_num)
  have h19 := h20.keep ha 19 (by norm_num) 524288#32 (by norm_num)
  have h18 := h19.keep ha 18 (by norm_num) 262144#32 (by norm_num)
  have h17 := h18.keep ha 17 (by norm_num) 131072#32 (by norm_num)
  have h16 := h17.keep ha 16 (by norm_num) 65536#32 (by norm_num)
  have h15 := h16.keep ha 15 (by norm_num) 32768#32 (by norm_num)
  have h14 := h15.keep ha 14 (by norm_num) 16384#32 (by norm_num)
  have h13 := h14.keep ha 13 (by norm_num) 8192#32 (by norm_num)
  have h12 := h13.keep ha 12 (by norm_num) 4096#32 (by norm_num)
  have h11 := h12.keep ha 11 (by norm_num) 2048#32 (by norm_num)
  have h10 := h11.keep ha 10 (by norm_num) 1024#32 (by norm_num)
  have h9 := h10.keep ha 9 (by norm_num) 512#32 (by norm_num)
  have h8 := h9.keep ha 8 (by norm_num) 256#32 (by norm_num)
  have h7 := h8.keep ha 7 (by norm_num) 128#32 (by norm_num)
  have h6 := h7.keep ha 6 (by norm_num) 64#32 (by norm_num)
  have h5 := h6.keep ha 5 (by norm_num) 32#32 (by norm_num)
  have h4 := h5.keep ha 4 (by norm_num) 16#32 (by norm_num)
  have h3 := h4.keep ha 3 (by norm_num) 8#32 (by norm_num)
  have h2 := h3.keep ha 2 (by norm_num) 4#32 (by norm_num)
  have h1 := h2.keep ha 1 (by norm_num) 2#32 (by norm_num)
  have h0 := h1.keep ha 0 (by norm_num) 1#32 (by norm_num)
  have h : Found a 0 (search a) := h0
  refine ⟨fun hT => ?_, fun hT => h.2.1.mono hT⟩
  by_contra hc
  exact h.2.2 (hT.mono (by simp only [pow_zero]; omega))

/-- The exponent field the update call reads off a word: the word moved so that its exponent is the block's, or the
    field of one when that is below the normal range. -/
def field (n : BitVec 32) : BitVec 32 :=
  if (n + 4229955585#32).slt 16777216#32 then 1065353216#32 else (n + 4229955585#32) &&& 2139095040#32

/-- The field of a word, and what is read off it: the exponent and the number that divides by its power of two. -/
theorem field_spec (n : BitVec 32) (J f : ℕ) (hJ : J ≤ 245) (hf : f < 8388608)
    (hn : n.toNat + 2097153 = (J + 10) * 8388608 + f) :
    (field n).sshiftRight 23 = BitVec.ofNat 32 (J + 2)
    ∧ Ideal.ofBits .f32 (2130706432#32 - field n) = ((2 : ℝ) ^ (125 - (J : ℤ)) : ℝ) := by
  have hv : n + 4229955585#32 = BitVec.ofNat 32 ((J + 2) * 8388608 + f) := by
    apply BitVec.eq_of_toNat_eq
    rw [BitVec.toNat_add, BitVec.toNat_ofNat, BitVec.toNat_ofNat]
    omega
  have hl : (J + 2) * 8388608 + f < 2 ^ 31 := by omega
  have hs : (n + 4229955585#32).slt 16777216#32 = false := by
    have hw : (n + 4229955585#32).toNat = (J + 2) * 8388608 + f := by
      rw [hv, BitVec.toNat_ofNat, Nat.mod_eq_of_lt (by omega)]
    have h1 : (n + 4229955585#32).toInt = ((J + 2) * 8388608 + f : ℕ) := by
      rw [BitVec.toInt_eq_toNat_of_lt (by omega), hw]
    have h2 : (16777216#32).toInt = 16777216 := rfl
    rw [BitVec.slt_eq_decide, decide_eq_false_iff_not, h1, h2]
    omega
  have hfield : field n = BitVec.ofNat 32 ((J + 2) * 8388608) := by
    unfold field
    rw [hs, hv]
    apply BitVec.eq_of_toNat_eq
    have e : (2139095040 : ℕ) = (2 ^ 8 - 1) <<< 23 := rfl
    have e2 : ((J + 2) * 8388608 + f) &&& 2139095040 = ((((J + 2) * 8388608 + f) >>> 23) &&& (2 ^ 8 - 1)) <<< 23 := by
      rw [e]
      apply Nat.eq_of_testBit_eq
      intro i
      simp only [Nat.testBit_and, Nat.testBit_shiftLeft, Nat.testBit_shiftRight]
      by_cases hi : 23 ≤ i
      · simp [hi]
      · simp [hi]
    simp only [Bool.false_eq_true, if_false, BitVec.toNat_and, BitVec.toNat_ofNat]
    rw [Nat.mod_eq_of_lt (by omega), Nat.mod_eq_of_lt (by norm_num), e2, Nat.and_two_pow_sub_one_eq_mod, Nat.shiftRight_eq_div_pow,
      Nat.shiftLeft_eq]
    omega
  rw [hfield]
  constructor
  · apply BitVec.eq_of_toNat_eq
    rw [BitVec.sshiftRight_eq_of_msb_false, BitVec.toNat_ushiftRight, BitVec.toNat_ofNat, BitVec.toNat_ofNat, Nat.shiftRight_eq_div_pow]
    · omega
    · rw [BitVec.msb_eq_false_iff_two_mul_lt, BitVec.toNat_ofNat]; omega
  · have e : 2130706432#32 - BitVec.ofNat 32 ((J + 2) * 8388608) = BitVec.ofNat 32 ((252 - J) * 8388608 + 0) := by
      apply BitVec.eq_of_toNat_eq
      rw [BitVec.toNat_sub, BitVec.toNat_ofNat, BitVec.toNat_ofNat, BitVec.toNat_ofNat]
      omega
    rw [e]
    refine (word_normal (252 - J) 0 (by omega) (by omega) (by norm_num)).trans ?_
    refine congrArg Real.toEReal ?_
    rw [Nat.cast_zero, add_zero, ← zpow_natCast, ← zpow_add₀ two_ne_zero, Nat.cast_sub (show J ≤ 252 by omega)]
    refine congrArg (fun z : ℤ => (2 : ℝ) ^ z) ?_
    omega

/-- The field of the zero word. -/
theorem field_zero : (field 0#32).sshiftRight 23 = 127#32 ∧ Ideal.ofBits .f32 (2130706432#32 - field 0#32) = 1 := by
  have e : field 0#32 = 1065353216#32 := by decide
  rw [e]
  refine ⟨by decide, ?_⟩
  refine (word_normal 127 0 (by norm_num) (by norm_num) (by norm_num)).trans ?_
  rw [← EReal.coe_one]
  refine congrArg Real.toEReal ?_
  rw [Nat.cast_zero, add_zero, ← zpow_natCast, ← zpow_add₀ two_ne_zero]
  norm_num

/-! ## The exponent by counting powers of two -/

/-- A block's largest magnitude divided by the largest code, as both programs round that factor. -/
def scaled (a : EReal) : EReal := a * Ideal.ofBits .f32 0x3B124925#32

/-- The `j`-th power of two, from the smallest normal exponent. -/
def two (j : Fin 254) : EReal :=
  Ideal.pow (Ideal.ofBits .f32 0x40000000#32) ((((4294967170#32 + BitVec.ofNat 32 j.val).toInt : ℝ)) : EReal)

/-- How many of the powers of two a number reaches. -/
def count (x : EReal) : BitVec 32 := BitVec.ofNat 32 (Finset.univ.filter fun j : Fin 254 => two j ≤ x).card

/-- A block's exponent as the reference counts it. -/
def expo (a : EReal) : BitVec 32 := if a = 0 then 0#32 else count (scaled a) + 4294967170#32

/-- Two to minus a block's exponent. -/
def inv (a : EReal) : EReal := Ideal.pow (Ideal.ofBits .f32 0x40000000#32) (-((((expo a).toInt : ℝ)) : EReal))

/-- What the mask asks of a block's largest magnitude: that it is zero, or that it is in range and its scaled magnitude
    lies in none of the narrow gaps just below a power of two. -/
def Settled (a : EReal) : Prop :=
  a = 0 ∨ (Ideal.ofBits .f32 0x00800000#32 ≤ scaled a ∧ a ≤ Ideal.ofBits .f32 0x7F7FFFFF#32
    ∧ ∀ j : Fin 254, two j ≤ scaled a ↔ two j * Ideal.ofBits .f32 0x3F7FFFFF#32 < scaled a)

theorem word_two : Ideal.ofBits .f32 0x40000000#32 = ((2 : ℝ) : EReal) := by
  refine (word_normal 128 0 (by norm_num) (by norm_num) (by norm_num)).trans (congrArg Real.toEReal ?_)
  rw [Nat.cast_zero, add_zero, ← zpow_natCast, ← zpow_add₀ two_ne_zero]
  norm_num

theorem two_eq (j : Fin 254) : two j = ((2 : ℝ) ^ ((j.val : ℤ) - 126) : ℝ) := by
  have e : (4294967170#32 + BitVec.ofNat 32 j.val).toInt = (j.val : ℤ) - 126 := by
    have := j.isLt
    rw [BitVec.toInt_eq_toNat_cond, BitVec.toNat_add, BitVec.toNat_ofNat, BitVec.toNat_ofNat]
    split <;> omega
  unfold two
  rw [word_two, e]
  refine congrArg Real.toEReal ?_
  rw [← Real.rpow_intCast]
  rfl

theorem word_small : Ideal.ofBits .f32 0x00800000#32 = (((2 : ℝ) ^ (-126 : ℤ) : ℝ) : EReal) := by
  refine (word_normal 1 0 (by norm_num) (by norm_num) (by norm_num)).trans (congrArg Real.toEReal ?_)
  rw [Nat.cast_zero, add_zero, ← zpow_natCast, ← zpow_add₀ two_ne_zero]
  norm_num

theorem word_factor : Ideal.ofBits .f32 0x3B124925#32 = (((9586981 : ℝ) * 2 ^ (-32 : ℤ) : ℝ) : EReal) := by
  refine (word_normal 118 1198373 (by norm_num) (by norm_num) (by norm_num)).trans (congrArg Real.toEReal ?_)
  norm_num

theorem word_below_one : Ideal.ofBits .f32 0x3F7FFFFF#32 = (((16777215 : ℝ) * 2 ^ (-24 : ℤ) : ℝ) : EReal) := by
  refine (word_normal 126 8388607 (by norm_num) (by norm_num) (by norm_num)).trans (congrArg Real.toEReal ?_)
  norm_num

theorem word_max : Ideal.ofBits .f32 0x7F7FFFFF#32 = (((16777215 : ℝ) * 2 ^ (104 : ℤ) : ℝ) : EReal) := by
  refine (word_normal 254 8388607 (by norm_num) (by norm_num) (by norm_num)).trans (congrArg Real.toEReal ?_)
  norm_num

/-- The powers of two up to the `J`-th are the ones a number between it and the next reaches. -/
theorem card_reached (x : ℝ) (J : ℕ) (hJ : J ≤ 245) (h0 : (2 : ℝ) ^ ((J : ℤ) - 126) ≤ x) (h1 : x < (2 : ℝ) ^ ((J : ℤ) - 125)) :
    (Finset.univ.filter fun j : Fin 254 => two j ≤ ((x : ℝ) : EReal)).card = J + 1 := by
  have e : (Finset.univ.filter fun j : Fin 254 => two j ≤ ((x : ℝ) : EReal))
      = Finset.Iic (⟨J, by omega⟩ : Fin 254) := by
    ext j
    rw [Finset.mem_filter, Finset.mem_Iic, two_eq, EReal.coe_le_coe_iff, Fin.le_def]
    refine ⟨fun h => ?_, fun h => ⟨Finset.mem_univ _, le_trans (zpow_le_zpow_right₀ one_le_two (by
      show (j.val : ℤ) - 126 ≤ (J : ℤ) - 126
      have : j.val ≤ J := h
      omega)) h0⟩⟩
    have := (zpow_lt_zpow_iff_right₀ (one_lt_two (α := ℝ))).1 (lt_of_le_of_lt h.2 h1)
    show j.val ≤ J
    omega
  rw [e, Fin.card_Iic]

/-- Where the mask holds, the update call's exponent and factor are the reference's. -/
theorem exponent_agrees (a : EReal) (h : Settled a) :
    (field (search a)).sshiftRight 23 = expo a + 127#32
    ∧ Ideal.ofBits .f32 (2130706432#32 - field (search a)) = inv a := by
  rcases h with rfl | ⟨hlo, hhi, hgap⟩
  · have hs : search 0 = 0#32 := by
      apply BitVec.eq_of_toNat_eq
      by_contra hne
      have hp : 1 ≤ (search 0).toNat := Nat.one_le_iff_ne_zero.2 hne
      have := ((search_spec le_rfl EReal.zero_lt_top 1).2 hp).2
      have h2 := word_lt 0 1 Nat.zero_lt_one (by norm_num)
      rw [word_zero] at h2
      exact absurd h2 (not_lt.2 this)
    have he : expo 0 = 0#32 := if_pos rfl
    refine ⟨by rw [hs, field_zero.1, he]; rfl, ?_⟩
    unfold inv
    rw [hs, field_zero.2, he, word_two]
    have ez : (-(((BitVec.toInt 0#32 : ℤ) : ℝ) : EReal)) = ((0 : ℝ) : EReal) := by simp
    rw [ez]
    show (1 : EReal) = ((Real.rpow 2 0 : ℝ) : EReal)
    have : Real.rpow 2 0 = 1 := Real.rpow_zero 2
    rw [this, EReal.coe_one]
  · unfold scaled at hlo
    rw [word_small, word_factor] at hlo
    rw [word_max] at hhi
    have hc : (0 : ℝ) < 9586981 * 2 ^ (-32 : ℤ) := by positivity
    induction a with
    | bot =>
      rw [EReal.bot_mul_coe_of_pos hc] at hlo
      exact absurd hlo (not_le.2 (EReal.bot_lt_coe _))
    | top => exact absurd hhi (not_le.2 (EReal.coe_lt_top _))
    | coe r =>
      rw [← EReal.coe_mul, EReal.coe_le_coe_iff] at hlo
      rw [EReal.coe_le_coe_iff] at hhi
      have hsc : scaled (r : EReal) = ((r * (9586981 * 2 ^ (-32 : ℤ)) : ℝ) : EReal) := by
        unfold scaled; rw [word_factor, ← EReal.coe_mul]
      rw [hsc] at hgap
      have hr : 0 < r := by
        by_contra hn
        have h1 := mul_nonpos_of_nonpos_of_nonneg (not_lt.1 hn) hc.le
        have h2 : (0 : ℝ) < 2 ^ (-126 : ℤ) := by positivity
        linarith
      obtain ⟨x, hx⟩ : ∃ x : ℝ, x = r * (9586981 * 2 ^ (-32 : ℤ)) := ⟨_, rfl⟩
      rw [← hx] at hlo hgap hsc
      have hxp : 0 < x := hx ▸ mul_pos hr hc
      obtain ⟨k, hk0, hk1⟩ := exists_mem_Ico_zpow hxp (one_lt_two (α := ℝ))
      have hkl : -126 ≤ k := by
        have := (zpow_lt_zpow_iff_right₀ (one_lt_two (α := ℝ))).1 (lt_of_le_of_lt hlo hk1)
        omega
      have hku : k < 120 := by
        have h1 : x < 2 ^ (120 : ℤ) := by
          rw [hx]
          calc r * (9586981 * 2 ^ (-32 : ℤ)) ≤ (16777215 * 2 ^ (104 : ℤ)) * (9586981 * 2 ^ (-32 : ℤ)) :=
                mul_le_mul_of_nonneg_right hhi hc.le
            _ < 2 ^ (120 : ℤ) := by norm_num
        exact (zpow_lt_zpow_iff_right₀ (one_lt_two (α := ℝ))).1 (lt_of_le_of_lt hk0 h1)
      obtain ⟨J, rfl⟩ : ∃ J : ℕ, k = (J : ℤ) - 126 := ⟨(k + 126).toNat, by omega⟩
      have hJ : J ≤ 245 := by omega
      have hk1' : x < (2 : ℝ) ^ ((J : ℤ) - 125) := by
        refine lt_of_lt_of_eq hk1 (congrArg (fun z : ℤ => (2 : ℝ) ^ z) (by omega))
      have ha : ((r : ℝ) : EReal) < ⊤ := EReal.coe_lt_top r
      have hz : (0 : EReal) ≤ (r : EReal) := EReal.coe_nonneg.2 hr.le
      have key : ∀ z : ℤ, (2 : ℝ) ^ (z + (-32)) = 2 ^ z * 2 ^ (-32 : ℤ) := fun z => zpow_add₀ two_ne_zero _ _
      have hlow : (J + 9) * 8388608 + 6291455 ≤ (search (r : EReal)).toNat := by
        refine (search_spec hz ha _).1 ⟨by omega, ?_⟩
        rw [word_normal (J + 9) 6291455 (by omega) (by omega) (by norm_num), EReal.coe_le_coe_iff]
        have e1 : (((J + 9 : ℕ) : ℤ) - 150) = ((J : ℤ) - 126) + (-15) := by push_cast; ring
        rw [e1, zpow_add₀ two_ne_zero]
        have hp : (0 : ℝ) < 2 ^ ((J : ℤ) - 126) := by positivity
        rw [hx] at hk0
        generalize (2 : ℝ) ^ ((J : ℤ) - 126) = p at hk0 hp
        norm_num at hk0 ⊢
        nlinarith
      have hupp : (search (r : EReal)).toNat < (J + 10) * 8388608 + 6291455 := by
        by_contra hn
        obtain ⟨hw, hle⟩ := (search_spec hz ha _).2 (not_lt.1 hn)
        have hJ2 : J ≤ 244 := by omega
        rw [word_normal (J + 10) 6291455 (by omega) (by omega) (by norm_num), EReal.coe_le_coe_iff] at hle
        have hg := (hgap ⟨J + 1, by omega⟩).2
        rw [two_eq, word_below_one, ← EReal.coe_mul, EReal.coe_lt_coe_iff, EReal.coe_le_coe_iff] at hg
        have e0 : (((J + 1 : ℕ) : ℤ) - 126) = (J : ℤ) - 125 := by push_cast; ring
        have e1 : (((J + 10 : ℕ) : ℤ) - 150) = ((J : ℤ) - 125) + (-15) := by push_cast; ring
        rw [e1, zpow_add₀ two_ne_zero] at hle
        simp only [e0] at hg
        refine absurd (hg ?_) (not_le.2 hk1')
        rw [hx]
        have hp : (0 : ℝ) < 2 ^ ((J : ℤ) - 125) := by positivity
        generalize (2 : ℝ) ^ ((J : ℤ) - 125) = p at hle hp
        have h1 := mul_le_mul_of_nonneg_right hle hc.le
        clear hgap hg hhi hlo hk0 hk1 hk1' hx hsc hxp hc hle key
        norm_num at h1 ⊢
        linarith
      obtain ⟨f, hf, hn⟩ : ∃ f, f < 8388608 ∧ (search (r : EReal)).toNat + 2097153 = (J + 10) * 8388608 + f :=
        ⟨(search (r : EReal)).toNat + 2097153 - (J + 10) * 8388608, by omega, by omega⟩
      obtain ⟨hA, hB⟩ := field_spec _ J f hJ hf hn
      have hne : ((r : ℝ) : EReal) ≠ 0 := by exact_mod_cast hr.ne'
      have he : expo (r : EReal) = BitVec.ofNat 32 (J + 1) + 4294967170#32 := by
        unfold expo count
        rw [if_neg hne, hsc, card_reached x J hJ hk0 hk1']
      constructor
      · rw [hA, he]
        apply BitVec.eq_of_toNat_eq
        rw [BitVec.toNat_add, BitVec.toNat_add, BitVec.toNat_ofNat, BitVec.toNat_ofNat, BitVec.toNat_ofNat, BitVec.toNat_ofNat]
        omega
      · rw [hB]
        unfold inv
        have ei : (expo (r : EReal)).toInt = (J : ℤ) - 125 := by
          rw [he, BitVec.toInt_eq_toNat_cond, BitVec.toNat_add, BitVec.toNat_ofNat, BitVec.toNat_ofNat]
          split <;> omega
        rw [ei, word_two, ← EReal.coe_neg]
        refine congrArg Real.toEReal ?_
        have en : -(((J : ℤ) - 125 : ℤ) : ℝ) = ((125 - (J : ℤ) : ℤ) : ℝ) := by push_cast; ring
        rw [en, ← Real.rpow_intCast]
        rfl

end Cert.Spec

end
-- ==== Proof.Quantise.lean ====
/- The new weights in blocks of 32 along the rows and along the columns: each block's largest magnitude, its exponent
   byte and its codes, as functions of the new weights. -/
module

public import proofs.«01_k».proof.Proof.Exponent
public import proofs.«01_k».proof.Proof.KPay1
public import Idealize.ShloMosaic.Lib.Pointwise

@[expose] public section

noncomputable section

namespace Cert.Spec

open Idealize.ShloMosaic

/-- The new weights from the update call's argument arrays: the three scalars, gradient, weights and moments. -/
def newW (s : (⟨1, ![3]⟩ : Shape).Idx → EReal) (g w m v : Weights) : Fin 11 → Fin 3072 → Fin 1024 → EReal :=
  KernelIdeal.Value.wU g w m v (s (ix1 0)) (s (ix1 1)) (s (ix1 2))

/-- The largest magnitude of 32 numbers. -/
def amax (f : Fin 32 → EReal) : EReal := Finset.univ.fold max ⊥ fun k => max (f k) (-f k)

theorem amax_nonneg (f : Fin 32 → EReal) : 0 ≤ amax f := by
  refine le_trans ?_ ((Finset.le_fold_max _).2 (Or.inr ⟨0, Finset.mem_univ _, le_rfl⟩))
  rcases le_total 0 (f 0) with h | h
  · exact le_max_of_le_left h
  · exact le_max_of_le_right (EReal.neg_nonneg.2 h)

/-- The largest magnitude of block `b` of a row. -/
def rowMax (W : Fin 11 → Fin 3072 → Fin 1024 → EReal) (n : Fin 11) (f : Fin 3072) (b : Fin 32) : EReal :=
  amax fun k => W n f ⟨b.val * 32 + k.val, by omega⟩

/-- The largest magnitude of block `b` of a column. -/
def colMax (W : Fin 11 → Fin 3072 → Fin 1024 → EReal) (n : Fin 11) (d : Fin 1024) (b : Fin 96) : EReal :=
  amax fun k => W n ⟨b.val * 32 + k.val, by omega⟩ d

/-- A number scaled by `i` and clipped to the range of codes. -/
def code (w i : EReal) : EReal := min (Ideal.ofBits .f32 0x43E00000#32) (max (Ideal.ofBits .f32 0xC3E00000#32) (w * i))

/-- The codes along the rows. -/
def rowCode (W : Fin 11 → Fin 3072 → Fin 1024 → EReal) (n : Fin 11) (f : Fin 3072) (d : Fin 1024) : EReal :=
  code (W n f d) (inv (rowMax W n f ⟨d.val / 32, by omega⟩))

/-- The codes along the columns. -/
def colCode (W : Fin 11 → Fin 3072 → Fin 1024 → EReal) (n : Fin 11) (d : Fin 1024) (f : Fin 3072) : EReal :=
  code (W n f d) (inv (colMax W n d ⟨f.val / 32, by omega⟩))

/-- A comparison's bit is one exactly when the comparison holds. -/
theorem cmp_oge (x y : EReal) : Ideal.cmp .oge x y = 1#1 ↔ y ≤ x := by
  unfold Ideal.cmp
  by_cases h : y ≤ x <;> simp [h]

/-- The count as the reference sums it. -/
theorem fold_count (x : EReal) :
    Finset.univ.fold IntOp.addi 0#32 (fun j : Fin 254 => (Ideal.cmp .oge x (two j)).setWidth 32) = count x := by
  rw [IndicatorCount.fold_addi_setWidth_eq_card]
  unfold count
  refine congrArg (BitVec.ofNat 32) (congrArg Finset.card ?_)
  ext j
  rw [Finset.mem_filter, Finset.mem_filter, cmp_oge]

/-- The scaling as the reference multiplies it. -/
theorem mulf_scaled (a : EReal) : FloatOps.mulf (F := Ideal) (φ := .f32) a (FloatOps.ofBits .f32 0x3B124925#32) = scaled a := rfl

/-- A power of two as the reference raises it. -/
theorem powf_two (j : Fin 254) :
    FloatOps.hostPowf (F := Ideal) (φ := .f32) (FloatOps.ofBits .f32 0x40000000#32)
      (FloatOps.sitofp .f32 (IntOp.addi 4294967170#32 (BitVec.ofNat 32 j.val))) = two j := rfl

/-- The exponent as the reference selects it. -/
theorem expo_select (a : EReal) :
    Scalar.select (FloatOps.cmpf (F := Ideal) (φ := .f32) .oeq a (FloatOps.ofBits .f32 0x00000000#32)) 0#32
      (IntOp.subi (count (scaled a)) 126#32) = expo a := by
  show (if Ideal.cmp .oeq a (Ideal.ofBits .f32 0x00000000#32) = 1#1 then 0#32 else count (scaled a) - 126#32) = _
  have e0 : Ideal.ofBits .f32 0x00000000#32 = 0 := word_zero
  have ec : count (scaled a) - 126#32 = count (scaled a) + 4294967170#32 := by
    rw [BitVec.sub_eq_add_neg]; rfl
  rw [e0, ec]
  unfold expo Ideal.cmp
  by_cases h : a = 0 <;> simp [h]

/-- A block's exponent byte from its largest magnitude. -/
def expByte (a : EReal) : BitVec 8 := (expo a + 127#32).setWidth 8

end Cert.Spec

end
-- ==== Proof.UPay.lean ====
/- What the update call of the second program stores at one grid point in its code and exponent buffers, over the loaded
   blocks: each block of 32 new weights with the exponent field found by a search over the bits of its magnitude. -/
module

public import proofs.«01_k».proof.Proof.Gen.UpdateIdeal.Skeleton
public import proofs.«01_k».proof.Proof.Quantise

@[expose] public section

set_option maxRecDepth 16384

noncomputable section

namespace Cert.Spec

open Idealize.ShloMosaic

/-- The exponent the update call stores for a block of largest magnitude `a`. -/
def wordExp (a : EReal) : BitVec 32 := (field (search a)).sshiftRight 23
/-- The number the update call scales such a block by. -/
def wordInv (a : EReal) : EReal := Ideal.ofBits .f32 (2130706432#32 - field (search a))

/-- The code the update call stores along the rows. -/
def rowCodeW (W : Fin 11 → Fin 3072 → Fin 1024 → EReal) (n : Fin 11) (f : Fin 3072) (d : Fin 1024) : EReal :=
  code (W n f d) (wordInv (rowMax W n f ⟨d.val / 32, by omega⟩))
/-- The exponent it stores along the rows. -/
def rowExpW (W : Fin 11 → Fin 3072 → Fin 1024 → EReal) (n : Fin 11) (f : Fin 3072) (b : Fin 32) : BitVec 8 :=
  (wordExp (rowMax W n f b)).setWidth 8
/-- The code it stores along the columns. -/
def colCodeW (W : Fin 11 → Fin 3072 → Fin 1024 → EReal) (n : Fin 11) (d : Fin 1024) (f : Fin 3072) : EReal :=
  code (W n f d) (wordInv (colMax W n d ⟨f.val / 32, by omega⟩))
/-- The exponent it stores along the columns. -/
def colExpW (W : Fin 11 → Fin 3072 → Fin 1024 → EReal) (n : Fin 11) (d : Fin 1024) (b : Fin 96) : BitVec 32 :=
  wordExp (colMax W n d b)

/-- One bit of the search, for every block at once. -/
def keeps {s : Shape} (a : s.Idx → EReal) (b : BitVec 32) (n : s.Idx → BitVec 32) : s.Idx → BitVec 32 := fun i => keep (a i) b (n i)

/-- A bit of the search as the update call selects it. -/
theorem keep_vec {s : Shape} (a : FVec Ideal s .f32) (n : IVec s 32) (b : BitVec 32) :
    select (cmpf .ole (bitcastToFloat (F := Ideal) .f32 (ori n (broadcast s b) : IVec s 32)) a) (ori n (broadcast s b) : IVec s 32) n = keeps a b n := by
  funext i
  show (if Ideal.cmp .ole (Ideal.ofBits .f32 (n i ||| b)) (a i) = 1#1 then n i ||| b else n i) = keep (a i) b (n i)
  unfold keep Ideal.cmp
  by_cases h : Ideal.ofBits .f32 (n i ||| b) ≤ a i <;> simp [h]

/-- The exponent field as the update call selects it. -/
theorem field_vec {s : Shape} (n : IVec s 32) (i : s.Idx) :
    select (cmpi .slt (addi n (broadcast s 4229955585#32)) (broadcast s 16777216#32)) (broadcast s 1065353216#32)
      (andi (addi n (broadcast s 4229955585#32)) (broadcast s 2139095040#32)) i = field (n i) := by
  show (if BitVec.ofBool ((n i + 4229955585#32).slt 16777216#32) = 1#1 then 1065353216#32
    else (n i + 4229955585#32) &&& 2139095040#32) = field (n i)
  unfold field
  cases (n i + 4229955585#32).slt 16777216#32 <;> rfl

end Cert.Spec

namespace Cert.UpdateIdeal.Value

open Idealize.ShloMosaic Idealize.ShloMosaic.TcCoe Idealize.SL.Sem
open Cert.UpdateIdeal Cert.UpdateIdeal.Gen

section Columns
variable (a : FVec Ideal S8x1x1024 .f32) (n : IVec S8x1x1024 32)

/-- Bits 30 to 21 of the search along the columns. -/
theorem pay20_eq : k0_pay20 a n (ori n (broadcast S8x1x1024 1073741824#32))
    = Spec.keeps a 2097152#32 (Spec.keeps a 4194304#32 (Spec.keeps a 8388608#32 (Spec.keeps a 16777216#32 (Spec.keeps a 33554432#32
      (Spec.keeps a 67108864#32 (Spec.keeps a 134217728#32 (Spec.keeps a 268435456#32 (Spec.keeps a 536870912#32
      (Spec.keeps a 1073741824#32 n))))))))) := by
  simp only [k0_pay20, Spec.keep_vec]

/-- Bits 20 to 11. -/
theorem pay22_eq : k0_pay22 a n (ori n (broadcast S8x1x1024 1048576#32))
    = Spec.keeps a 2048#32 (Spec.keeps a 4096#32 (Spec.keeps a 8192#32 (Spec.keeps a 16384#32 (Spec.keeps a 32768#32
      (Spec.keeps a 65536#32 (Spec.keeps a 131072#32 (Spec.keeps a 262144#32 (Spec.keeps a 524288#32
      (Spec.keeps a 1048576#32 n))))))))) := by
  simp only [k0_pay22, Spec.keep_vec]

/-- Bits 10 to 1. -/
theorem pay24_eq : k0_pay24 a n (ori n (broadcast S8x1x1024 1024#32))
    = Spec.keeps a 2#32 (Spec.keeps a 4#32 (Spec.keeps a 8#32 (Spec.keeps a 16#32 (Spec.keeps a 32#32
      (Spec.keeps a 64#32 (Spec.keeps a 128#32 (Spec.keeps a 256#32 (Spec.keeps a 512#32
      (Spec.keeps a 1024#32 n))))))))) := by
  simp only [k0_pay24, Spec.keep_vec]

/-- Bits 30 to 1, as the update call chains them. -/
def colHigh : IVec S8x1x1024 32 :=
  k0_pay24 a (k0_pay22 a (k0_pay20 a k0_pay18 k0_pay19) (k0_pay21 a k0_pay18 k0_pay19))
    (k0_pay23 a (k0_pay20 a k0_pay18 k0_pay19) (k0_pay21 a k0_pay18 k0_pay19))
/-- The same with the last bit to try. -/
def colLow : IVec S8x1x1024 32 :=
  k0_pay25 a (k0_pay22 a (k0_pay20 a k0_pay18 k0_pay19) (k0_pay21 a k0_pay18 k0_pay19))
    (k0_pay23 a (k0_pay20 a k0_pay18 k0_pay19) (k0_pay21 a k0_pay18 k0_pay19))

/-- The exponent field of each block along the columns. -/
theorem pay26_apply (i : S8x1x1024.Idx) : k0_pay26 a (colHigh a) (colLow a) i = Spec.field (Spec.search (a i)) := by
  unfold colHigh colLow k0_pay25 k0_pay23 k0_pay21 k0_pay19
  simp only [pay20_eq, pay22_eq, pay24_eq, k0_pay26, Spec.keep_vec]
  exact Spec.field_vec _ i

end Columns

section Rows
variable (a : FVec Ideal S32x1x256 .f32) (n : IVec S32x1x256 32)

/-- Bits 30 to 21 of the search along the rows. -/
theorem pay33_eq : k0_pay33 a n (ori n (broadcast S32x1x256 1073741824#32))
    = Spec.keeps a 2097152#32 (Spec.keeps a 4194304#32 (Spec.keeps a 8388608#32 (Spec.keeps a 16777216#32 (Spec.keeps a 33554432#32
      (Spec.keeps a 67108864#32 (Spec.keeps a 134217728#32 (Spec.keeps a 268435456#32 (Spec.keeps a 536870912#32
      (Spec.keeps a 1073741824#32 n))))))))) := by
  simp only [k0_pay33, Spec.keep_vec]

/-- Bits 20 to 11. -/
theorem pay35_eq : k0_pay35 a n (ori n (broadcast S32x1x256 1048576#32))
    = Spec.keeps a 2048#32 (Spec.keeps a 4096#32 (Spec.keeps a 8192#32 (Spec.keeps a 16384#32 (Spec.keeps a 32768#32
      (Spec.keeps a 65536#32 (Spec.keeps a 131072#32 (Spec.keeps a 262144#32 (Spec.keeps a 524288#32
      (Spec.keeps a 1048576#32 n))))))))) := by
  simp only [k0_pay35, Spec.keep_vec]

/-- Bits 10 to 1. -/
theorem pay37_eq : k0_pay37 a n (ori n (broadcast S32x1x256 1024#32))
    = Spec.keeps a 2#32 (Spec.keeps a 4#32 (Spec.keeps a 8#32 (Spec.keeps a 16#32 (Spec.keeps a 32#32
      (Spec.keeps a 64#32 (Spec.keeps a 128#32 (Spec.keeps a 256#32 (Spec.keeps a 512#32
      (Spec.keeps a 1024#32 n))))))))) := by
  simp only [k0_pay37, Spec.keep_vec]

/-- Bits 30 to 1, as the update call chains them. -/
def rowHigh : IVec S32x1x256 32 :=
  k0_pay37 a (k0_pay35 a (k0_pay33 a k0_pay31 k0_pay32) (k0_pay34 a k0_pay31 k0_pay32))
    (k0_pay36 a (k0_pay33 a k0_pay31 k0_pay32) (k0_pay34 a k0_pay31 k0_pay32))
/-- The same with the last bit to try. -/
def rowLow : IVec S32x1x256 32 :=
  k0_pay38 a (k0_pay35 a (k0_pay33 a k0_pay31 k0_pay32) (k0_pay34 a k0_pay31 k0_pay32))
    (k0_pay36 a (k0_pay33 a k0_pay31 k0_pay32) (k0_pay34 a k0_pay31 k0_pay32))

/-- The exponent field of each block along the rows. -/
theorem pay1_apply (i : S32x1x256.Idx) : k0_pay1 a (rowHigh a) (rowLow a) i = Spec.field (Spec.search (a i)) := by
  unfold rowHigh rowLow k0_pay38 k0_pay36 k0_pay34 k0_pay32
  simp only [pay33_eq, pay35_eq, pay37_eq, k0_pay1, Spec.keep_vec]
  exact Spec.field_vec _ i

end Rows

/-! ## The stored blocks, from the new weights of the block -/

section Stored
variable (W : FVec Ideal S256x1024 .f32)

/-- The largest magnitudes along the columns. -/
theorem pay17_apply (b : Fin 8) (d : Fin 1024) :
    k0_pay17 W (ix3 b 0 d) = Spec.amax fun k => W (ix2 ⟨b.val * 32 + k.val, by omega⟩ d) := by
  pointwise [k0_pay17, k0_pay16, Spec.amax]
  simp only [Spec.ofBits_neg_inf]
  rfl

/-- The largest magnitudes along the rows. -/
theorem pay30_apply (b : Fin 32) (r : Fin 256) :
    k0_pay30 W (ix3 b 0 r) = Spec.amax fun k => W (ix2 r ⟨b.val * 32 + k.val, by omega⟩) := by
  pointwise [k0_pay30, k0_pay29, Spec.amax]
  simp only [Spec.ofBits_neg_inf]
  rfl

/-- The stored codes along the columns. -/
theorem pay27_apply (a : FVec Ideal S8x1x1024 .f32) (d : Fin 1024) (r : Fin 256) :
    k0_pay27 (k0_pay16 W) a (colHigh a) (colLow a) (ix3 0 d r)
      = Spec.code (W (ix2 r d)) (Spec.wordInv (a (ix3 ⟨r.val / 32, by omega⟩ 0 d))) := by
  pointwise [k0_pay27, k0_pay16]
  simp only [pay26_apply]
  rfl

/-- The stored exponents along the columns. -/
theorem pay28_apply (a : FVec Ideal S8x1x1024 .f32) (b : Fin 8) (d : Fin 1024) :
    k0_pay28 a (colHigh a) (colLow a) (ix4 0 0 b d) = Spec.wordExp (a (ix3 b 0 d)) := by
  pointwise [k0_pay28]
  simp only [pay26_apply]
  rfl

/-- The stored codes along the rows. -/
theorem pay2_apply (a : FVec Ideal S32x1x256 .f32) (r : Fin 256) (d : Fin 1024) :
    k0_pay2 (k0_pay29 W) a (rowHigh a) (rowLow a) (ix3 0 r d)
      = Spec.code (W (ix2 r d)) (Spec.wordInv (a (ix3 ⟨d.val / 32, by omega⟩ 0 r))) := by
  pointwise [k0_pay2, k0_pay29]
  simp only [pay1_apply]
  rfl

/-- The stored exponent bytes along the rows. -/
theorem pay3_apply (a : FVec Ideal S32x1x256 .f32) (r : Fin 256) (b : Fin 32) :
    k0_pay3 a (rowHigh a) (rowLow a) (ix3 0 r b) = (Spec.wordExp (a (ix3 b 0 r))).setWidth 8 := by
  pointwise [k0_pay3]
  simp only [pay1_apply]
  rfl

end Stored

/-- The new weights of a block, from the loaded blocks. -/
theorem pay9_apply (v0 v1 v2 : Elt Ideal .f32) (v3 v5 v9 v16 : FVec Ideal S1x256x1024 .f32) (a : Fin 256) (b : Fin 1024) :
    k0_pay9 v0 v1 v2 v3 v5 v9 v16 (ix2 a b)
      = v3 (ix3 0 a b) + KernelIdeal.Value.delta v1 v2 (Spec.mNew (v5 (ix3 0 a b) * v0) (v9 (ix3 0 a b)))
          (Spec.vNew (v5 (ix3 0 a b) * v0) (v16 (ix3 0 a b))) (v3 (ix3 0 a b)) := by
  pointwise [k0_pay9, k0_pay8, k0_pay7, k0_pay6, k0_pay5, k0_pay4, Spec.mNew, Spec.vNew, KernelIdeal.Value.delta]

/-- When the loaded blocks are expert `n`'s and the block `T` of 256 rows of the argument arrays, the stored blocks are the
    codes and exponents of the new weights there. -/
theorem stored (v0 v1 v2 : Elt Ideal .f32) (v3 v5 v9 v16 : FVec Ideal S1x256x1024 .f32)
    (s : (⟨1, ![3]⟩ : Shape).Idx → EReal) (g w m v : Spec.Weights) (n : Fin 11) (T : Fin 12)
    (h0 : v0 = s (ix1 0)) (h1 : v1 = s (ix1 1)) (h2 : v2 = s (ix1 2))
    (h3 : ∀ a b, v3 (ix3 0 a b) = w (ix3 n ⟨T.val * 256 + a.val, by omega⟩ b))
    (h5 : ∀ a b, v5 (ix3 0 a b) = g (ix3 n ⟨T.val * 256 + a.val, by omega⟩ b))
    (h9 : ∀ a b, v9 (ix3 0 a b) = m (ix3 n ⟨T.val * 256 + a.val, by omega⟩ b))
    (h16 : ∀ a b, v16 (ix3 0 a b) = v (ix3 n ⟨T.val * 256 + a.val, by omega⟩ b))
    (W : FVec Ideal S256x1024 .f32) (hW : W = k0_pay9 v0 v1 v2 v3 v5 v9 v16) (r : Fin 256) (d : Fin 1024) (b : Fin 32) (q : Fin 8) :
    k0_pay2 (k0_pay29 W) (k0_pay30 W) (rowHigh (k0_pay30 W)) (rowLow (k0_pay30 W)) (ix3 0 r d)
      = Spec.rowCodeW (Spec.newW s g w m v) n ⟨T.val * 256 + r.val, by omega⟩ d
    ∧ k0_pay3 (k0_pay30 W) (rowHigh (k0_pay30 W)) (rowLow (k0_pay30 W)) (ix3 0 r b)
      = Spec.rowExpW (Spec.newW s g w m v) n ⟨T.val * 256 + r.val, by omega⟩ b
    ∧ k0_pay27 (k0_pay16 W) (k0_pay17 W) (colHigh (k0_pay17 W)) (colLow (k0_pay17 W)) (ix3 0 d r)
      = Spec.colCodeW (Spec.newW s g w m v) n d ⟨T.val * 256 + r.val, by omega⟩
    ∧ k0_pay28 (k0_pay17 W) (colHigh (k0_pay17 W)) (colLow (k0_pay17 W)) (ix4 0 0 q d)
      = Spec.colExpW (Spec.newW s g w m v) n d ⟨T.val * 8 + q.val, by omega⟩ := by
  have hw : ∀ a b, W (ix2 a b) = Spec.newW s g w m v n ⟨T.val * 256 + a.val, by omega⟩ b := fun a b => by
    rw [hW, pay9_apply, h3, h5, h9, h16, h0, h1, h2]; rfl
  have hr : ∀ b r, k0_pay30 W (ix3 b 0 r) = Spec.rowMax (Spec.newW s g w m v) n ⟨T.val * 256 + r.val, by omega⟩ b := fun b r => by
    rw [pay30_apply]
    simp only [hw]
    rfl
  have hc : ∀ (q : Fin 8) d, k0_pay17 W (ix3 q 0 d) = Spec.colMax (Spec.newW s g w m v) n d ⟨T.val * 8 + q.val, by omega⟩ := fun q d => by
    rw [pay17_apply]
    simp only [hw]
    unfold Spec.colMax
    refine congrArg Spec.amax (funext fun k => congrFun (congrArg _ (Fin.ext ?_)) d)
    show T.val * 256 + (q.val * 32 + k.val) = (T.val * 8 + q.val) * 32 + k.val
    omega
  refine ⟨?_, ?_, ?_, ?_⟩
  · rw [pay2_apply, hw, hr]; rfl
  · rw [pay3_apply, hr]; rfl
  · rw [pay27_apply, hw, hc]
    refine congrArg _ (congrArg Spec.wordInv (congrArg _ (Fin.ext ?_)))
    show T.val * 8 + r.val / 32 = (T.val * 256 + r.val) / 32
    omega
  · rw [pay28_apply, hc]; rfl

end Cert.UpdateIdeal.Value

end
-- ==== Proof.URegion.lean ====
/- The update call of the second program, grid point by grid point over the extended reals, and the host code after it:
   the codes and exponents it leaves in its results' buffers. -/
module

public import Idealize.ShloMosaic.Lib.Pipeline.ValueKit
public import proofs.«01_k».proof.Proof.Gen.UpdateIdeal.Frame
public import proofs.«01_k».proof.Proof.UPay

@[expose] public section

set_option maxRecDepth 16384

noncomputable section

namespace Cert.UpdateIdeal.Value

open Idealize.ShloMosaic Idealize.ShloMosaic.TcCoe Idealize.SL.Sem
open Cert.UpdateIdeal Cert.UpdateIdeal.Gen
open Idealize.ShloMosaic.Pipeline (Dat Cfg Window)

variable (m : (ℓ : Loc nD τ sig) → Buf (Elt Ideal) ℓ)

/-- The block each window stages at a grid point. -/
theorem idx0 : ∀ t : Fin cfg0.N,
    win0_0.index t = ![0] ∧
    win0_1.index t = ![t.val / 12, t.val % 12, 0] ∧ win0_2.index t = ![t.val / 12, t.val % 12, 0] ∧
    win0_3.index t = ![t.val / 12, t.val % 12, 0] ∧ win0_4.index t = ![t.val / 12, t.val % 12, 0] ∧
    win0_9.index t = ![t.val / 12, t.val % 12, 0] ∧ win0_10.index t = ![t.val / 12, t.val % 12, 0] ∧
    win0_11.index t = ![t.val / 12, 0, t.val % 12] ∧ win0_12.index t = ![t.val / 12, t.val % 12, 0, 0] :=
  (by decide +kernel : ∀ t : Fin grid0.N, _)

theorem lt132 (t : Fin cfg0.N) : t.val < 132 := lt_of_lt_of_eq t.isLt N_0

/-- A grid point's expert. -/
def ex (t : Fin cfg0.N) : Fin 11 := ⟨t.val / 12, by have := lt132 t; omega⟩
/-- A grid point's block of 256 rows. -/
def part (t : Fin cfg0.N) : Fin 12 := ⟨t.val % 12, by omega⟩
/-- The hidden coordinate of row `a` of a grid point's block. -/
def row (t : Fin cfg0.N) (a : Fin 256) : Fin 3072 := ⟨(part t).val * 256 + a.val, by omega⟩

/-- The new weights from the argument arrays at launch. -/
def weightsAt (c : Dev nD) : Fin 11 → Fin 3072 → Fin 1024 → EReal :=
  Spec.newW (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

theorem sc_blk (c : Dev nD) (t : Fin cfg0.N) (i : Fin 3) : iblk m c 0 t (ix1 i) = m ((c.tc : Thread nD τ).loc main_arg0) (ix1 i) := by
  blk_point [iblk, V, idx0 t]

theorem g_blk (c : Dev nD) (t : Fin cfg0.N) (a : Fin 256) (b : Fin 1024) :
    iblk m c 1 t (ix3 0 a b) = m ((c.tc : Thread nD τ).loc main_arg1) (ix3 (ex t) ⟨(part t).val * 256 + a.val, by omega⟩ b) := by
  have ht := lt132 t
  blk_point [iblk, V, idx0 t, ex, part]

theorem w_blk (c : Dev nD) (t : Fin cfg0.N) (a : Fin 256) (b : Fin 1024) :
    iblk m c 2 t (ix3 0 a b) = m ((c.tc : Thread nD τ).loc main_arg2) (ix3 (ex t) ⟨(part t).val * 256 + a.val, by omega⟩ b) := by
  have ht := lt132 t
  blk_point [iblk, V, idx0 t, ex, part]

theorem m_blk (c : Dev nD) (t : Fin cfg0.N) (a : Fin 256) (b : Fin 1024) :
    iblk m c 3 t (ix3 0 a b) = m ((c.tc : Thread nD τ).loc main_arg3) (ix3 (ex t) ⟨(part t).val * 256 + a.val, by omega⟩ b) := by
  have ht := lt132 t
  blk_point [iblk, V, idx0 t, ex, part]

theorem v_blk (c : Dev nD) (t : Fin cfg0.N) (a : Fin 256) (b : Fin 1024) :
    iblk m c 4 t (ix3 0 a b) = m ((c.tc : Thread nD τ).loc main_arg4) (ix3 (ex t) ⟨(part t).val * 256 + a.val, by omega⟩ b) := by
  have ht := lt132 t
  blk_point [iblk, V, idx0 t, ex, part]

/-- What a grid point leaves in its code and exponent buffers. -/
theorem outs (c : Dev nD) (t : Fin cfg0.N) (r : Fin 256) (d : Fin 1024) (b : Fin 32) (q : Fin 8) :
    (outsAt0 m c t.val t.isLt).2.2.2.2.1 (ix3 0 r d) = Spec.rowCodeW (weightsAt m c) (ex t) (row t r) d
    ∧ (outsAt0 m c t.val t.isLt).2.2.2.2.2.1 (ix3 0 r b) = Spec.rowExpW (weightsAt m c) (ex t) (row t r) b
    ∧ (outsAt0 m c t.val t.isLt).2.2.2.2.2.2.1 (ix3 0 d r) = Spec.colCodeW (weightsAt m c) (ex t) d (row t r)
    ∧ (outsAt0 m c t.val t.isLt).2.2.2.2.2.2.2.1 (ix4 0 0 q d)
      = Spec.colExpW (weightsAt m c) (ex t) d ⟨(part t).val * 8 + q.val, by omega⟩ := by
  by_cases h0 : t.val % 12 = 0
  · rw [outsAt0_A m c t h0]
    frame_out
    refine stored _ _ _ _ _ _ _ (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (ex t) (part t) ?_ ?_ ?_
      (fun a b => ?_) (fun a b => ?_) (fun a b => ?_) (fun a b => ?_) _ rfl r d b q
    · pointwise; exact sc_blk m c t _
    · pointwise; exact sc_blk m c t _
    · pointwise; exact sc_blk m c t _
    · exact w_blk m c t a b
    · exact g_blk m c t a b
    · exact m_blk m c t a b
    · exact v_blk m c t a b
  · rw [outsAt0_B m c t h0]
    frame_out
    refine stored _ _ _ _ _ _ _ (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (ex t) (part t) ?_ ?_ ?_
      (fun a b => ?_) (fun a b => ?_) (fun a b => ?_) (fun a b => ?_) _ rfl r d b q
    · pointwise; exact sc_blk m c t _
    · pointwise; exact sc_blk m c t _
    · pointwise; exact sc_blk m c t _
    · exact w_blk m c t a b
    · exact g_blk m c t a b
    · exact m_blk m c t a b
    · exact v_blk m c t a b

/-- An index whose first coordinate has one value, by the others. -/
theorem eq_ix3_zero {p q : ℕ} (y : (⟨3, ![1, p, q]⟩ : Shape).Idx) : y = ix3 0 (y 1) (y 2) := by
  refine (eq_ix3 y).trans ?_
  have : y 0 = (0 : Fin 1) := Subsingleton.elim (α := Fin 1) _ _
  rw [this]; rfl

/-- The codes along the rows after the call. -/
theorem codes_arr (c : Dev nD) : (dats m 0 c).arrAt 9 cfg0.N = fun j : S11x3072x1024.Idx => Spec.rowCodeW (weightsAt m c) (j 0) (j 1) (j 2) := by
  refine (dats m 0 c).arrAt_eq_of_covers 9 _ (by decide +kernel) fun t hf y => ?_
  have ht := lt132 t
  blk_simp
  rw [after0_9]
  refine (congrArg (outsAt0 m c t.val t.isLt).2.2.2.2.1 (eq_ix3_zero y)).trans ((outs m c t (y 1) (y 2) 0 0).1.trans ?_)
  refine congr (congr (congrArg _ (Fin.ext ?_)) (Fin.ext ?_)) (Fin.ext ?_) <;> simp only [ex, row, part] <;>
    blk_simp [idx0 t] <;> omega

/-- The exponent bytes along the rows after the call. -/
theorem exps_arr (c : Dev nD) : (dats m 0 c).arrAt 10 cfg0.N = fun j : S11x3072x32.Idx => Spec.rowExpW (weightsAt m c) (j 0) (j 1) (j 2) := by
  refine (dats m 0 c).arrAt_eq_of_covers 10 _ (by decide +kernel) fun t hf y => ?_
  have ht := lt132 t
  blk_simp
  rw [after0_10]
  refine (congrArg (outsAt0 m c t.val t.isLt).2.2.2.2.2.1 (eq_ix3_zero y)).trans ((outs m c t (y 1) 0 (y 2) 0).2.1.trans ?_)
  refine congr (congr (congrArg _ (Fin.ext ?_)) (Fin.ext ?_)) (Fin.ext ?_) <;> simp only [ex, row, part] <;>
    blk_simp [idx0 t] <;> omega

/-- The codes along the columns after the call. -/
theorem codesT_arr (c : Dev nD) : (dats m 0 c).arrAt 11 cfg0.N = fun j : S11x1024x3072.Idx => Spec.colCodeW (weightsAt m c) (j 0) (j 1) (j 2) := by
  refine (dats m 0 c).arrAt_eq_of_covers 11 _ (by decide +kernel) fun t hf y => ?_
  have ht := lt132 t
  blk_simp
  rw [after0_11]
  refine (congrArg (outsAt0 m c t.val t.isLt).2.2.2.2.2.2.1 (eq_ix3_zero y)).trans ((outs m c t (y 2) (y 1) 0 0).2.2.1.trans ?_)
  refine congr (congr (congrArg _ (Fin.ext ?_)) (Fin.ext ?_)) (Fin.ext ?_) <;> simp only [ex, row, part] <;>
    blk_simp [idx0 t] <;> omega

/-- An index of a block of exponents along the columns, by its two free coordinates. -/
theorem eq_ix4_zero (y : S1x1x8x1024.Idx) : y = ix4 0 0 (y 2) (y 3) := by
  refine (eq_ix4 y).trans ?_
  have h0 : y 0 = (0 : Fin 1) := Subsingleton.elim (α := Fin 1) _ _
  have h1 : y 1 = (0 : Fin 1) := Subsingleton.elim (α := Fin 1) _ _
  rw [h0, h1]; rfl

/-- The exponent of block `q` of the eight of part `T`, along the columns. -/
def expT (c : Dev nD) (n : Fin 11) (T : Fin 12) (q : Fin 8) (d : Fin 1024) : BitVec 32 :=
  Spec.colExpW (weightsAt m c) n d ⟨T.val * 8 + q.val, by omega⟩

/-- The exponents along the columns after the call. -/
theorem expsT_arr (c : Dev nD) : (dats m 0 c).arrAt 12 cfg0.N = fun j : S11x12x8x1024.Idx => expT m c (j 0) (j 1) (j 2) (j 3) := by
  refine (dats m 0 c).arrAt_eq_of_covers 12 _ (by decide +kernel) fun t hf y => ?_
  have ht := lt132 t
  blk_simp
  rw [after0_12]
  refine (congrArg (outsAt0 m c t.val t.isLt).2.2.2.2.2.2.2.1 (eq_ix4_zero y)).trans ((outs m c t 0 (y 3) 0 (y 2)).2.2.2.trans ?_)
  refine Eq.trans (b := expT m c (ex t) (part t) (y 2) (y 3)) rfl ?_
  refine congr (congr (congr (congrArg _ (Fin.ext ?_)) (Fin.ext ?_)) (Fin.ext ?_)) (Fin.ext ?_) <;> simp only [ex, row, part] <;>
    blk_simp [idx0 t] <;> omega

/-- The exponent bytes along the columns after the host code that follows the call. -/
theorem bytesT (c : Dev nD) (n : Fin 11) (d : Fin 1024) (b : Fin 96) :
    Pipeline.afterTail₀ cfgs (dats m) 0 (V0 m) [hostOps1] c main_v3 (ix3 n d b) = (Spec.colExpW (weightsAt m c) n d b).setWidth 8 := by
  have h : Pipeline.withArrays spec0 c (V0 m c) (fun w => (dats m 0 c).arrAt w cfg0.N) (Proc.devRef .tc main_v0_7)
      = fun j : S11x12x8x1024.Idx => expT m c (j 0) (j 1) (j 2) (j 3) :=
    (Pipeline.withArrays_arr spec0 launch0.win.arr_inj c _ _ 12).trans (expsT_arr m c)
  have e : Pipeline.afterTail₀ cfgs (dats m) 0 (V0 m) [hostOps1] c main_v3
      = trunci 8 (transpose S11x1024x96 [0, 2, 1] (shapeCast S11x96x1024
          (fun j : S11x12x8x1024.Idx => expT m c (j 0) (j 1) (j 2) (j 3)) shapeCasts_S11x12x8x1024_S11x96x1024)
          transposes_S11x96x1024_S11x1024x96_0_2_1) natLt_8_32 := by
    rw [← h]
    unfold Pipeline.afterTail₀
    after_results
    rfl
  rw [e]
  pointwise [expT]
  refine congrArg (fun b => (Spec.colExpW (weightsAt m c) n d b).setWidth 8) (Fin.ext ?_)
  show b.val / 8 * 8 + b.val % 8 = b.val
  omega

/-- The update call's program: each result at its function of the new weights, the arguments unchanged. -/
theorem run_results (ρ : Dev nD → PrngReg) :
    θ_run defs (onTc (τ := τ) (main (F := Ideal))) ⟨m, fun _ => 0, ρ⟩ fun r => ∀ c : Dev nD,
      (r.2.mem ((c.tc : Thread nD τ).loc main_v0_4) = fun j : S11x3072x1024.Idx => Spec.rowCodeW (weightsAt m c) (j 0) (j 1) (j 2))
      ∧ (r.2.mem ((c.tc : Thread nD τ).loc main_v0_5) = fun j : S11x3072x32.Idx => Spec.rowExpW (weightsAt m c) (j 0) (j 1) (j 2))
      ∧ (r.2.mem ((c.tc : Thread nD τ).loc main_v0_6) = fun j : S11x1024x3072.Idx => Spec.colCodeW (weightsAt m c) (j 0) (j 1) (j 2))
      ∧ (r.2.mem ((c.tc : Thread nD τ).loc main_v3) = fun j : S11x1024x96.Idx => (Spec.colExpW (weightsAt m c) (j 0) (j 1) (j 2)).setWidth 8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 9).trans (codes_arr m c), ((h c).1 10).trans (exps_arr m c), ((h c).1 11).trans (codesT_arr m c),
      ((h c).2 main_v3 (by decide)).trans (funext fun j => (congrArg _ (eq_ix3 j)).trans (bytesT m c (j 0) (j 1) (j 2))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩) (run_main m ρ)

end Cert.UpdateIdeal.Value

end
-- ==== Proof.URefValue.lean ====
/- The update call's reference over the extended reals: what its run leaves in each result's buffer, as the functions of
   the argument arrays in Proof/Quantise.lean. -/
module

public import proofs.«01_k».proof.Proof.Gen.UpdateReferenceIdeal.Read
public import proofs.«01_k».proof.Proof.Quantise
public import Idealize.ShloMosaic.Lib.Pointwise

@[expose] public section

set_option maxRecDepth 16384

noncomputable section

namespace Cert.UpdateReferenceIdeal.Blocks

open Cert.UpdateReferenceIdeal Cert.UpdateReferenceIdeal.Gen Cert.UpdateReferenceIdeal.Read Idealize.ShloMosaic Idealize.ShloMosaic.TcCoe Idealize.SL.Sem Idealize.ShloMosaic.StableHlo

variable (x0 : FVec Ideal S3 .f32) (x1 x2 x3 x4 : FVec Ideal S11x3072x1024 .f32)

/-- The new weights. -/
theorem v30_apply (n : Fin 11) (f : Fin 3072) (d : Fin 1024) :
    val_main_v30 (F := Ideal) x0 x1 x2 x3 x4 (ix3 n f d) = Spec.newW x0 x1 x2 x3 x4 n f d := by
  pointwise [val_main_v30, val_main_v29, val_main_v28, val_main_v27, val_main_v26, val_main_v25, val_main_v24, val_main_v23, val_main_v22,
    val_main_v21, val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3, val_main_v2,
    val_main_v1, val_main_v0, val_main_cst, val_main_cst_0, val_main_cst_1, val_main_cst_2, val_main_cst_3, val_main_cst_4,
    Spec.newW, KernelIdeal.Value.wU, KernelIdeal.Value.dU, KernelIdeal.Value.mU, KernelIdeal.Value.vU, KernelIdeal.Value.delta, Spec.mNew, Spec.vNew]

/-- The largest magnitude of a row's block. -/
theorem v33_apply (n : Fin 11) (f : Fin 3072) (b : Fin 32) :
    val_main_v33 (F := Ideal) x0 x1 x2 x3 x4 (ix3 n f b) = Spec.rowMax (Spec.newW x0 x1 x2 x3 x4) n f b := by
  pointwise [val_main_v33, val_main_v32, val_main_v31, val_main_cst_5, Spec.rowMax, Spec.amax]
  simp only [v30_apply, Spec.ofBits_neg_inf]
  rfl

/-- The scaled largest magnitude against each power of two. -/
theorem v44_apply (n : Fin 11) (f : Fin 3072) (b : Fin 32) (j : Fin 254) :
    val_main_v44 (F := Ideal) x0 x1 x2 x3 x4 (ix4 n f b j) = Spec.scaled (Spec.rowMax (Spec.newW x0 x1 x2 x3 x4) n f b) := by
  have e : idx_main_v36 (idx_main_v44 (ix4 n f b j)) = ix3 n f b := by
    funext a
    match a with
    | ⟨0, _⟩ => rfl
    | ⟨1, _⟩ => rfl
    | ⟨2, _⟩ => rfl
  rw [val_main_v44_apply, val_main_v36_apply, e, val_main_v35_apply, v33_apply, val_main_v34_apply, val_main_cst_6_apply]
  exact Spec.mulf_scaled _

/-- The powers of two. -/
theorem v42_apply (j : Fin 254) : val_main_v42 (F := Ideal) (ix1 j) = Spec.two j := by
  rw [val_main_v42_apply, val_main_v41_apply, val_main_cst_7_apply, val_main_v40_apply, val_main_v39_apply, val_main_v38_apply,
    val_main_c_apply, val_main_v37_apply]
  exact Spec.powf_two j

/-- Each power of two against the scaled largest magnitudes. -/
theorem v45_apply (n : Fin 11) (f : Fin 3072) (b : Fin 32) (j : Fin 254) :
    val_main_v45 (F := Ideal) (ix4 n f b j) = Spec.two j := by
  have e : idx_main_v43 (idx_main_v45 (ix4 n f b j)) = ix1 j := by
    funext a
    match a with
    | ⟨0, _⟩ => rfl
  rw [val_main_v45_apply, val_main_v43_apply, e, v42_apply]

/-- Whether a power of two is reached, as a number. -/
theorem v47_apply (n : Fin 11) (f : Fin 3072) (b : Fin 32) (j : Fin 254) :
    val_main_v47 (F := Ideal) x0 x1 x2 x3 x4 (ix4 n f b j)
      = (Ideal.cmp .oge (Spec.scaled (Spec.rowMax (Spec.newW x0 x1 x2 x3 x4) n f b)) (Spec.two j)).setWidth 32 := by
  rw [val_main_v47_apply, val_main_v46_apply, v44_apply, v45_apply]
  rfl

/-- How many powers of two the scaled largest magnitude reaches. -/
theorem v48_apply (n : Fin 11) (f : Fin 3072) (b : Fin 32) :
    val_main_v48 (F := Ideal) x0 x1 x2 x3 x4 (ix3 n f b) = Spec.count (Spec.scaled (Spec.rowMax (Spec.newW x0 x1 x2 x3 x4) n f b)) := by
  pointwise [val_main_v48, val_main_c_8]
  exact (Finset.fold_congr fun j _ => v47_apply x0 x1 x2 x3 x4 n f b j).trans (Spec.fold_count _)

/-- The block's exponent. -/
theorem v53_apply (n : Fin 11) (f : Fin 3072) (b : Fin 32) :
    val_main_v53 (F := Ideal) x0 x1 x2 x3 x4 (ix3 n f b) = Spec.expo (Spec.rowMax (Spec.newW x0 x1 x2 x3 x4) n f b) := by
  rw [val_main_v53_apply, val_main_v52_apply, val_main_v50_apply, v33_apply, v48_apply, val_main_v51_apply, val_main_cst_10_apply,
    val_main_v49_apply, val_main_c_9_apply, val_main_call0_v1_apply, val_main_call0_v0_apply, val_main_c_11_apply]
  exact Spec.expo_select _

/-- The exponent bytes along the rows. -/
theorem v66_apply (n : Fin 11) (f : Fin 3072) (b : Fin 32) :
    val_main_v66 (F := Ideal) x0 x1 x2 x3 x4 (ix3 n f b) = Spec.expByte (Spec.rowMax (Spec.newW x0 x1 x2 x3 x4) n f b) := by
  pointwise [val_main_v66, val_main_v65, val_main_v64, val_main_c_15, Spec.expByte]
  simp only [v53_apply]
  rfl

/-- The codes along the rows. -/
theorem v63_apply (n : Fin 11) (f : Fin 3072) (d : Fin 1024) :
    val_main_v63 (F := Ideal) x0 x1 x2 x3 x4 (ix3 n f d) = Spec.rowCode (Spec.newW x0 x1 x2 x3 x4) n f d := by
  pointwise [val_main_v63, val_main_v62, val_main_v61, val_main_call1_v4, val_main_call1_v3, val_main_call1_v2, val_main_call1_v1, val_main_call1_v0,
    val_main_cst_14, val_main_cst_13, val_main_v60, val_main_v59, val_main_v58, val_main_v57, val_main_v56, val_main_cst_12, val_main_v55, val_main_v54,
    val_main_v31, Spec.rowCode, Spec.code, Spec.inv]
  simp only [v53_apply, v30_apply]
  rfl

/-! ## The same along the columns -/

/-- The largest magnitude of a column's block. -/
theorem v70_apply (n : Fin 11) (d : Fin 1024) (b : Fin 96) :
    val_main_v70 (F := Ideal) x0 x1 x2 x3 x4 (ix3 n d b) = Spec.colMax (Spec.newW x0 x1 x2 x3 x4) n d b := by
  pointwise [val_main_v70, val_main_v69, val_main_v68, val_main_v67, val_main_cst_16, Spec.colMax, Spec.amax]
  simp only [v30_apply, Spec.ofBits_neg_inf]
  rfl

/-- The scaled largest magnitude against each power of two. -/
theorem v81_apply (n : Fin 11) (d : Fin 1024) (b : Fin 96) (j : Fin 254) :
    val_main_v81 (F := Ideal) x0 x1 x2 x3 x4 (ix4 n d b j) = Spec.scaled (Spec.colMax (Spec.newW x0 x1 x2 x3 x4) n d b) := by
  have e : idx_main_v73 (idx_main_v81 (ix4 n d b j)) = ix3 n d b := by
    funext a
    match a with
    | ⟨0, _⟩ => rfl
    | ⟨1, _⟩ => rfl
    | ⟨2, _⟩ => rfl
  rw [val_main_v81_apply, val_main_v73_apply, e, val_main_v72_apply, v70_apply, val_main_v71_apply, val_main_cst_17_apply]
  exact Spec.mulf_scaled _

/-- The powers of two. -/
theorem v79_apply (j : Fin 254) : val_main_v79 (F := Ideal) (ix1 j) = Spec.two j := by
  rw [val_main_v79_apply, val_main_v78_apply, val_main_cst_19_apply, val_main_v77_apply, val_main_v76_apply, val_main_v75_apply,
    val_main_c_18_apply, val_main_v74_apply]
  exact Spec.powf_two j

/-- Each power of two against the scaled largest magnitudes. -/
theorem v82_apply (n : Fin 11) (d : Fin 1024) (b : Fin 96) (j : Fin 254) :
    val_main_v82 (F := Ideal) (ix4 n d b j) = Spec.two j := by
  have e : idx_main_v80 (idx_main_v82 (ix4 n d b j)) = ix1 j := by
    funext a
    match a with
    | ⟨0, _⟩ => rfl
  rw [val_main_v82_apply, val_main_v80_apply, e, v79_apply]

/-- Whether a power of two is reached, as a number. -/
theorem v84_apply (n : Fin 11) (d : Fin 1024) (b : Fin 96) (j : Fin 254) :
    val_main_v84 (F := Ideal) x0 x1 x2 x3 x4 (ix4 n d b j)
      = (Ideal.cmp .oge (Spec.scaled (Spec.colMax (Spec.newW x0 x1 x2 x3 x4) n d b)) (Spec.two j)).setWidth 32 := by
  rw [val_main_v84_apply, val_main_v83_apply, v81_apply, v82_apply]
  rfl

/-- How many powers of two the scaled largest magnitude reaches. -/
theorem v85_apply (n : Fin 11) (d : Fin 1024) (b : Fin 96) :
    val_main_v85 (F := Ideal) x0 x1 x2 x3 x4 (ix3 n d b) = Spec.count (Spec.scaled (Spec.colMax (Spec.newW x0 x1 x2 x3 x4) n d b)) := by
  pointwise [val_main_v85, val_main_c_20]
  exact (Finset.fold_congr fun j _ => v84_apply x0 x1 x2 x3 x4 n d b j).trans (Spec.fold_count _)

/-- The block's exponent. -/
theorem v90_apply (n : Fin 11) (d : Fin 1024) (b : Fin 96) :
    val_main_v90 (F := Ideal) x0 x1 x2 x3 x4 (ix3 n d b) = Spec.expo (Spec.colMax (Spec.newW x0 x1 x2 x3 x4) n d b) := by
  rw [val_main_v90_apply, val_main_v89_apply, val_main_v87_apply, v70_apply, v85_apply, val_main_v88_apply, val_main_cst_22_apply,
    val_main_v86_apply, val_main_c_21_apply, val_main_call2_v1_apply, val_main_call2_v0_apply, val_main_c_23_apply]
  exact Spec.expo_select _

/-- The exponent bytes along the columns. -/
theorem v103_apply (n : Fin 11) (d : Fin 1024) (b : Fin 96) :
    val_main_v103 (F := Ideal) x0 x1 x2 x3 x4 (ix3 n d b) = Spec.expByte (Spec.colMax (Spec.newW x0 x1 x2 x3 x4) n d b) := by
  pointwise [val_main_v103, val_main_v102, val_main_v101, val_main_c_27, Spec.expByte]
  simp only [v90_apply]
  rfl

/-- The codes along the columns. -/
theorem v100_apply (n : Fin 11) (d : Fin 1024) (f : Fin 3072) :
    val_main_v100 (F := Ideal) x0 x1 x2 x3 x4 (ix3 n d f) = Spec.colCode (Spec.newW x0 x1 x2 x3 x4) n d f := by
  pointwise [val_main_v100, val_main_v99, val_main_v98, val_main_call3_v4, val_main_call3_v3, val_main_call3_v2, val_main_call3_v1, val_main_call3_v0,
    val_main_cst_26, val_main_cst_25, val_main_v97, val_main_v96, val_main_v95, val_main_v94, val_main_v93, val_main_cst_24, val_main_v92, val_main_v91,
    val_main_v68, val_main_v67, Spec.colCode, Spec.code, Spec.inv]
  simp only [v90_apply, v30_apply]
  rfl

/-! ## The run -/

section Run
open Cert.UpdateReferenceIdeal.Value
variable (m : (ℓ : Loc nD τ sig) → Buf (Elt Ideal) ℓ)

/-- The new weights from the argument arrays at launch. -/
def weightsAt (c : Dev nD) : Fin 11 → Fin 3072 → Fin 1024 → EReal :=
  Spec.newW (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- The reference's run: each result at its function of the new weights, the arguments unchanged. -/
theorem run_results (ρ : Dev nD → PrngReg) :
    θ_run defs (onTc (τ := τ) (main (F := Ideal))) ⟨m, fun _ => 0, ρ⟩ fun r => ∀ c : Dev nD,
      (r.2.mem ((c.tc : Thread nD τ).loc main_v63) = fun j : S11x3072x1024.Idx => Spec.rowCode (weightsAt m c) (j 0) (j 1) (j 2))
      ∧ (r.2.mem ((c.tc : Thread nD τ).loc main_v66) = fun j : S11x3072x32.Idx => Spec.expByte (Spec.rowMax (weightsAt m c) (j 0) (j 1) (j 2)))
      ∧ (r.2.mem ((c.tc : Thread nD τ).loc main_v100) = fun j : S11x1024x3072.Idx => Spec.colCode (weightsAt m c) (j 0) (j 1) (j 2))
      ∧ (r.2.mem ((c.tc : Thread nD τ).loc main_v103) = fun j : S11x1024x96.Idx => Spec.expByte (Spec.colMax (weightsAt m c) (j 0) (j 1) (j 2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => by
    obtain ⟨h0, h1, h2, h3, hargs⟩ := h c
    rw [val_main_v63_eq] at h0
    rw [val_main_v66_eq] at h1
    rw [val_main_v100_eq] at h2
    rw [val_main_v103_eq] at h3
    refine ⟨h0.trans (funext fun j => ?_), h1.trans (funext fun j => ?_), h2.trans (funext fun j => ?_), h3.trans (funext fun j => ?_), hargs⟩
    · exact (congrArg _ (eq_ix3 j)).trans (v63_apply ..)
    · exact (congrArg _ (eq_ix3 j)).trans (v66_apply ..)
    · exact (congrArg _ (eq_ix3 j)).trans (v100_apply ..)
    · exact (congrArg _ (eq_ix3 j)).trans (v103_apply ..)) (run m ρ)

end Run

end Cert.UpdateReferenceIdeal.Blocks

end
-- ==== Proof.UMask.lean ====
/- The mask of the quantisation's claim: where its bit is one, the exponent of the entry's block is settled in the sense of
   Proof/Exponent.lean. -/
module

public import proofs.«01_k».proof.Proof.Gen.On_exponent_settled
public import proofs.«01_k».proof.Proof.URefValue

@[expose] public section

set_option maxRecDepth 16384

noncomputable section

namespace Cert.Spec

open Idealize.ShloMosaic

theorem or_one (x y : BitVec 1) (h : IntOp.ori x y = 1#1) : x = 1#1 ∨ y = 1#1 := by revert x y; decide

theorem and_one (x y : BitVec 1) (h : IntOp.andi x y = 1#1) : x = 1#1 ∧ y = 1#1 := by revert x y; decide

theorem eq_one (x y : BitVec 1) (h : IntOp.cmpi .eq x y = 1#1) : x = y := by revert x y; decide

theorem fold_and_one {n : ℕ} (p : Fin n → BitVec 1) (h : Finset.univ.fold IntOp.andi 1#1 p = 1#1) (j : Fin n) : p j = 1#1 := by
  have key : ∀ s : Finset (Fin n), s.fold IntOp.andi 1#1 p = 1#1 → ∀ j ∈ s, p j = 1#1 := by
    intro s
    induction s using Finset.induction_on with
    | empty => intro _ j hj; exact absurd hj (Finset.notMem_empty j)
    | insert a s ha ih =>
      intro hs j hj
      rw [Finset.fold_insert ha] at hs
      obtain ⟨h1, h2⟩ := and_one _ _ hs
      rcases Finset.mem_insert.1 hj with rfl | hj
      · exact h1
      · exact ih h2 j hj
  exact key _ h j (Finset.mem_univ j)

theorem bit_one (p : Prop) [Decidable p] : BitVec.ofBool (decide p) = 1#1 ↔ p := by
  by_cases h : p <;> simp [h]

/-- What the mask computes from a block's largest magnitude. -/
def settledBit (a : EReal) : BitVec 1 :=
  IntOp.ori (BitVec.ofBool (decide (a = 0)))
    (IntOp.andi (IntOp.andi (BitVec.ofBool (decide (Ideal.ofBits .f32 0x00800000#32 ≤ scaled a))) (BitVec.ofBool (decide (a ≤ Ideal.ofBits .f32 0x7F7FFFFF#32))))
      (Finset.univ.fold IntOp.andi 1#1 fun j : Fin 254 => IntOp.cmpi .eq (BitVec.ofBool (decide (two j ≤ scaled a)))
        (BitVec.ofBool (decide (two j * Ideal.ofBits .f32 0x3F7FFFFF#32 < scaled a)))))

theorem settled_of_bit (a : EReal) (h : settledBit a = 1#1) : Settled a := by
  rcases or_one _ _ h with h | h
  · exact Or.inl ((bit_one _).1 h)
  · obtain ⟨h, hf⟩ := and_one _ _ h
    obtain ⟨h0, h1⟩ := and_one _ _ h
    refine Or.inr ⟨(bit_one _).1 h0, (bit_one _).1 h1, fun j => ?_⟩
    have e := eq_one _ _ (fold_and_one _ hf j)
    rw [← bit_one (two j ≤ scaled a), e, bit_one]

end Cert.Spec

namespace Cert.On_exponent_settled.Mask

open Cert.On_exponent_settled Cert.On_exponent_settled.Gen Idealize.ShloMosaic

/-- The powers of two, as the mask raises them. -/
def powers : FVec Ideal S254 .f32 :=
  Host.powf (broadcastInDim S254 ![] bcast_S_S254 (constant S_ .f32 0x40000000#32))
    (sitofp .f32 (addi (broadcastInDim S254 ![] bcast_S_S254 (constantI S_ 32 4294967170#32)) (iotaInDim S254 32 0)))

theorem powers_apply (j : Fin 254) : powers (ix1 j) = Spec.two j := by
  pointwise [powers]
  exact Spec.powf_two j

/-- The mask's bits from the rows' largest magnitudes. -/
def rowBits (a : FVec Ideal S11x3072x32 .f32) : IVec S11x3072x32 1 :=
  let x := mulf a (broadcastInDim S11x3072x32 ![] bcast_S_S11x3072x32 (constant S_ .f32 0x3B124925#32))
  let xb := broadcastInDim S11x3072x32x254 ![0, 1, 2, 3] bcast_S11x3072x32x1_S11x3072x32x254_0_1_2_3
    (broadcastInDim S11x3072x32x1 ![0, 1, 2] bcast_S11x3072x32_S11x3072x32x1_0_1_2 x)
  let pb := fun p : FVec Ideal S254 .f32 => broadcastInDim S11x3072x32x254 ![0, 1, 2, 3] bcast_S1x1x1x254_S11x3072x32x254_0_1_2_3
    (broadcastInDim S1x1x1x254 ![3] bcast_S254_S1x1x1x254_3 p)
  let same := cmpi .eq (cmpf .oge xb (pb powers))
    (cmpf .ogt xb (pb (mulf powers (broadcastInDim S254 ![] bcast_S_S254 (constant S_ .f32 0x3F7FFFFF#32)))))
  ori (cmpf .oeq a (broadcastInDim S11x3072x32 ![] bcast_S_S11x3072x32 (constant S_ .f32 0x00000000#32)))
    (andi (andi (cmpf .oge x (broadcastInDim S11x3072x32 ![] bcast_S_S11x3072x32 (constant S_ .f32 0x00800000#32)))
        (cmpf .ole a (broadcastInDim S11x3072x32 ![] bcast_S_S11x3072x32 (constant S_ .f32 0x7F7FFFFF#32))))
      (Host.reduce IntOp.andi same (constantI S_ 1 1#1) reducesTo_S11x3072x32x254_S11x3072x32_d3 h_S_))

/-- The mask's bits from the columns' largest magnitudes. -/
def colBits (a : FVec Ideal S11x1024x96 .f32) : IVec S11x1024x96 1 :=
  let x := mulf a (broadcastInDim S11x1024x96 ![] bcast_S_S11x1024x96 (constant S_ .f32 0x3B124925#32))
  let xb := broadcastInDim S11x1024x96x254 ![0, 1, 2, 3] bcast_S11x1024x96x1_S11x1024x96x254_0_1_2_3
    (broadcastInDim S11x1024x96x1 ![0, 1, 2] bcast_S11x1024x96_S11x1024x96x1_0_1_2 x)
  let pb := fun p : FVec Ideal S254 .f32 => broadcastInDim S11x1024x96x254 ![0, 1, 2, 3] bcast_S1x1x1x254_S11x1024x96x254_0_1_2_3
    (broadcastInDim S1x1x1x254 ![3] bcast_S254_S1x1x1x254_3 p)
  let same := cmpi .eq (cmpf .oge xb (pb powers))
    (cmpf .ogt xb (pb (mulf powers (broadcastInDim S254 ![] bcast_S_S254 (constant S_ .f32 0x3F7FFFFF#32)))))
  ori (cmpf .oeq a (broadcastInDim S11x1024x96 ![] bcast_S_S11x1024x96 (constant S_ .f32 0x00000000#32)))
    (andi (andi (cmpf .oge x (broadcastInDim S11x1024x96 ![] bcast_S_S11x1024x96 (constant S_ .f32 0x00800000#32)))
        (cmpf .ole a (broadcastInDim S11x1024x96 ![] bcast_S_S11x1024x96 (constant S_ .f32 0x7F7FFFFF#32))))
      (Host.reduce IntOp.andi same (constantI S_ 1 1#1) reducesTo_S11x1024x96x254_S11x1024x96_d3 h_S_))

theorem rowBits_apply (a : FVec Ideal S11x3072x32 .f32) (n : Fin 11) (f : Fin 3072) (b : Fin 32) :
    rowBits a (ix3 n f b) = Spec.settledBit (a (ix3 n f b)) := by
  pointwise [rowBits]
  simp only [powers_apply]
  rfl

theorem colBits_apply (a : FVec Ideal S11x1024x96 .f32) (n : Fin 11) (d : Fin 1024) (b : Fin 96) :
    colBits a (ix3 n d b) = Spec.settledBit (a (ix3 n d b)) := by
  pointwise [colBits]
  simp only [powers_apply]
  rfl

variable (x0 : FVec Ideal S3 .f32) (x1 x2 x3 x4 : FVec Ideal S11x3072x1024 .f32)

/-- The four masks are the rows' and the columns' bits, each also spread over its block's entries. -/
theorem fn_eq : fn (F := Ideal) x0 x1 x2 x3 x4
    = (shapeCast S11x3072x1024 (broadcastInDim S11x3072x32x32 ![0, 1, 2, 3] bcast_S11x3072x32x1_S11x3072x32x32_0_1_2_3
          (broadcastInDim S11x3072x32x1 ![0, 1, 2] bcast_S11x3072x32_S11x3072x32x1_0_1_2
            (rowBits (UpdateReferenceIdeal.Read.val_main_v33 (F := Ideal) x0 x1 x2 x3 x4)))) shapeCasts_S11x3072x32x32_S11x3072x1024,
        rowBits (UpdateReferenceIdeal.Read.val_main_v33 (F := Ideal) x0 x1 x2 x3 x4),
        shapeCast S11x1024x3072 (broadcastInDim S11x1024x96x32 ![0, 1, 2, 3] bcast_S11x1024x96x1_S11x1024x96x32_0_1_2_3
          (broadcastInDim S11x1024x96x1 ![0, 1, 2] bcast_S11x1024x96_S11x1024x96x1_0_1_2
            (colBits (UpdateReferenceIdeal.Read.val_main_v70 (F := Ideal) x0 x1 x2 x3 x4)))) shapeCasts_S11x1024x96x32_S11x1024x3072,
        colBits (UpdateReferenceIdeal.Read.val_main_v70 (F := Ideal) x0 x1 x2 x3 x4)) := rfl

theorem rows_settled (n : Fin 11) (f : Fin 3072) (b : Fin 32) (h : (fn (F := Ideal) x0 x1 x2 x3 x4).2.1 (ix3 n f b) = 1#1) :
    Spec.Settled (Spec.rowMax (Spec.newW x0 x1 x2 x3 x4) n f b) := by
  rw [fn_eq] at h
  refine Spec.settled_of_bit _ (Eq.trans ?_ h)
  exact ((rowBits_apply _ n f b).trans (congrArg _ (UpdateReferenceIdeal.Blocks.v33_apply x0 x1 x2 x3 x4 n f b))).symm

theorem cols_settled (n : Fin 11) (d : Fin 1024) (b : Fin 96) (h : (fn (F := Ideal) x0 x1 x2 x3 x4).2.2.2 (ix3 n d b) = 1#1) :
    Spec.Settled (Spec.colMax (Spec.newW x0 x1 x2 x3 x4) n d b) := by
  rw [fn_eq] at h
  refine Spec.settled_of_bit _ (Eq.trans ?_ h)
  exact ((colBits_apply _ n d b).trans (congrArg _ (UpdateReferenceIdeal.Blocks.v70_apply x0 x1 x2 x3 x4 n d b))).symm

/-- A row's bits, spread over each block's 32 entries. -/
theorem spread_rows (r : IVec S11x3072x32 1) (n : Fin 11) (f : Fin 3072) (d : Fin 1024) :
    shapeCast S11x3072x1024 (broadcastInDim S11x3072x32x32 ![0, 1, 2, 3] bcast_S11x3072x32x1_S11x3072x32x32_0_1_2_3
      (broadcastInDim S11x3072x32x1 ![0, 1, 2] bcast_S11x3072x32_S11x3072x32x1_0_1_2 r)) shapeCasts_S11x3072x32x32_S11x3072x1024 (ix3 n f d)
      = r (ix3 n f ⟨d.val / 32, by omega⟩) := by
  pointwise []

/-- A column's bits, spread over each block's 32 entries. -/
theorem spread_cols (r : IVec S11x1024x96 1) (n : Fin 11) (d : Fin 1024) (f : Fin 3072) :
    shapeCast S11x1024x3072 (broadcastInDim S11x1024x96x32 ![0, 1, 2, 3] bcast_S11x1024x96x1_S11x1024x96x32_0_1_2_3
      (broadcastInDim S11x1024x96x1 ![0, 1, 2] bcast_S11x1024x96_S11x1024x96x1_0_1_2 r)) shapeCasts_S11x1024x96x32_S11x1024x3072 (ix3 n d f)
      = r (ix3 n d ⟨f.val / 32, by omega⟩) := by
  pointwise []

theorem rowCodes_settled (n : Fin 11) (f : Fin 3072) (d : Fin 1024) (h : (fn (F := Ideal) x0 x1 x2 x3 x4).1 (ix3 n f d) = 1#1) :
    Spec.Settled (Spec.rowMax (Spec.newW x0 x1 x2 x3 x4) n f ⟨d.val / 32, by omega⟩) := by
  refine rows_settled x0 x1 x2 x3 x4 n f _ ?_
  rw [fn_eq] at h ⊢
  exact (spread_rows _ n f d).symm.trans h

theorem colCodes_settled (n : Fin 11) (d : Fin 1024) (f : Fin 3072) (h : (fn (F := Ideal) x0 x1 x2 x3 x4).2.2.1 (ix3 n d f) = 1#1) :
    Spec.Settled (Spec.colMax (Spec.newW x0 x1 x2 x3 x4) n d ⟨f.val / 32, by omega⟩) := by
  refine cols_settled x0 x1 x2 x3 x4 n d _ ?_
  rw [fn_eq] at h ⊢
  exact (spread_cols _ n d f).symm.trans h

end Cert.On_exponent_settled.Mask

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Gen.Update
public import proofs.«01_k».proof.Proof.Gen.Update.Skeleton
public import proofs.«01_k».proof.Proof.Gen.Update.Launch
public import proofs.«01_k».proof.Proof.Gen.Update.Points
public import proofs.«01_k».proof.Proof.Gen.Update.Frame
public import proofs.«01_k».proof.Proof.Gen.UpdateIdeal
public import proofs.«01_k».proof.Proof.Gen.UpdateIdeal.Skeleton
public import proofs.«01_k».proof.Proof.Gen.UpdateIdeal.Launch
public import proofs.«01_k».proof.Proof.Gen.UpdateIdeal.Points
public import proofs.«01_k».proof.Proof.Gen.UpdateIdeal.Frame
public import proofs.«01_k».proof.Proof.Gen.UpdateReferenceIdeal
public import proofs.«01_k».proof.Proof.Gen.UpdateReferenceIdeal.Run
public import proofs.«01_k».proof.Proof.Gen.UpdateReferenceIdeal.Read
public import proofs.«01_k».proof.Proof.Gen.On_exponent_settled
public import proofs.«01_k».proof.Proof.KernelValue
public import proofs.«01_k».proof.Proof.RefValue
public import proofs.«01_k».proof.Proof.URegion
public import proofs.«01_k».proof.Proof.URefValue
public import proofs.«01_k».proof.Proof.UMask
public import Idealize.ShloMosaic.Adequacy
public import Idealize.ShloMosaic.Init
public import Idealize.ShloMosaic.Lib.Quiescent

@[expose] public section

noncomputable section

namespace Cert.Proof

open Idealize.ShloMosaic Idealize.SL.Sem

/-- The precondition says that the step's bits are not all zero. -/
theorem step_ne [Cert.Pre_first_step_taken.Facts]
    (m : (ℓ : Loc Cert.KernelIdeal.nD Cert.KernelIdeal.τ Cert.KernelIdeal.sig) → Buf (Elt Ideal) ℓ)
    (hp : Cert.Pre_KernelIdeal_first_step_taken m) (c : Dev Cert.KernelIdeal.nD) :
    m ((c.tc : Thread Cert.KernelIdeal.nD Cert.KernelIdeal.τ).loc Cert.KernelIdeal.main_arg8) ix0 ≠ (0#32 : BitVec 32) := by
  intro h
  have := congrFun (hp c) ix0
  simp only [Cert.Pre_first_step_taken.fn, cmpi, constantI, h] at this
  exact absurd this (by decide)

/-- The kernel and the reference compute the same seven results over the extended reals. -/
theorem algebraic :
    Cert.algebraic_KernelIdeal_ReferenceIdeal_pre_first_step_taken (hKernelIdeal := Cert.KernelIdeal.Gen.facts)
      (hReferenceIdeal := Cert.ReferenceIdeal.Gen.facts) (hPre_first_step_taken := ⟨⟩) := by
  haveI : Cert.Pre_first_step_taken.Facts := ⟨⟩
  intro m g m' g' hp hag
  have ha : ∀ c : Dev Cert.KernelIdeal.nD, Cert.ReferenceIdeal.Value.argsAt m' c = Cert.KernelIdeal.Value.argsOf m c := by
    intro c
    obtain ⟨e0, e1, e2, e3, e4, e5, e6, e7, e8, e9, e10⟩ := hag c
    unfold Cert.ReferenceIdeal.Value.argsAt Cert.ReferenceIdeal.Value.argsOf Cert.KernelIdeal.Value.argsOf
    rw [e0, e1, e2, e3, e4, e5, e6, e7, e8, e9, e10]
  refine ⟨fun c j => Cert.Spec.gradR (Cert.KernelIdeal.Value.argsOf m c) (j 0) (j 1) (j 2),
    fun c _ => Cert.Spec.normR (Cert.KernelIdeal.Value.argsOf m c),
    fun c j => Cert.Spec.wR (Cert.KernelIdeal.Value.argsOf m c) (j 0) (j 1) (j 2),
    fun c j => Cert.Spec.deltaR (Cert.KernelIdeal.Value.argsOf m c) (j 0) (j 1) (j 2),
    fun c j => Cert.Spec.mR (Cert.KernelIdeal.Value.argsOf m c) (j 0) (j 1) (j 2),
    fun c j => Cert.Spec.vR (Cert.KernelIdeal.Value.argsOf m c) (j 0) (j 1) (j 2),
    fun c => Cert.Spec.histR (Cert.KernelIdeal.Value.argsOf m c), ?_, ?_⟩
  · refine (θ_run _ _ _).mono (fun r h c => ?_) (Cert.KernelIdeal.Value.run_results m g (step_ne m hp))
    obtain ⟨h0, h1, h2, h3, h4, h5, h6, h7, hargs⟩ := h c
    exact ⟨h0, h1, h2, h3, h4, h5, Cert.Spec.hist_ext (Cert.KernelIdeal.Value.argsOf m c) _ h6 h7, hargs⟩
  · refine (θ_run _ _ _).mono (fun r h c => ?_) (Cert.ReferenceIdeal.Value.run_results m' g')
    have h := h c
    rw [ha c] at h
    obtain ⟨h0, h1, h2, h3, h4, h5, h6, h7, hargs⟩ := h
    rw [show m' ((c.tc : Thread Cert.ReferenceIdeal.nD Cert.ReferenceIdeal.τ).loc Cert.ReferenceIdeal.main_arg10) = _
      from (hag c).2.2.2.2.2.2.2.2.2.2] at h7
    exact ⟨h0, h1, h2, h3, h4, h5, Cert.Spec.hist_ext (Cert.KernelIdeal.Value.argsOf m c) _ h6 h7, hargs⟩

/-- A settled block's stored exponent and scale are the reference's. -/
theorem settled_word (a : EReal) (h : Cert.Spec.Settled a) :
    Cert.Spec.wordExp a = Cert.Spec.expo a + 127#32 ∧ Cert.Spec.wordInv a = Cert.Spec.inv a := Cert.Spec.exponent_agrees a h

/-- The update call and its reference compute the same codes and exponents over the extended reals, wherever the exponent is
    settled. -/
theorem algebraic_quantise :
    Cert.algebraic_UpdateIdeal_UpdateReferenceIdeal_on_exponent_settled (hUpdateIdeal := Cert.UpdateIdeal.Gen.facts)
      (hUpdateReferenceIdeal := Cert.UpdateReferenceIdeal.Gen.facts) (hOn_exponent_settled := Cert.On_exponent_settled.Gen.facts) := by
  intro m g m' g' _ hag
  have hw : ∀ c : Dev Cert.UpdateIdeal.nD, Cert.UpdateReferenceIdeal.Blocks.weightsAt m' c = Cert.UpdateIdeal.Value.weightsAt m c := by
    intro c
    obtain ⟨e0, e1, e2, e3, e4⟩ := hag c
    unfold Cert.UpdateReferenceIdeal.Blocks.weightsAt Cert.UpdateIdeal.Value.weightsAt
    rw [e0, e1, e2, e3, e4]
  refine ⟨fun c j => Cert.Spec.rowCode (Cert.UpdateIdeal.Value.weightsAt m c) (j 0) (j 1) (j 2),
    fun c j => Cert.Spec.expByte (Cert.Spec.rowMax (Cert.UpdateIdeal.Value.weightsAt m c) (j 0) (j 1) (j 2)),
    fun c j => Cert.Spec.colCode (Cert.UpdateIdeal.Value.weightsAt m c) (j 0) (j 1) (j 2),
    fun c j => Cert.Spec.expByte (Cert.Spec.colMax (Cert.UpdateIdeal.Value.weightsAt m c) (j 0) (j 1) (j 2)), ?_, ?_⟩
  · refine (θ_run _ _ _).mono (fun r h c => ?_) (Cert.UpdateIdeal.Value.run_results m g)
    obtain ⟨h0, h1, h2, h3, hargs⟩ := h c
    refine ⟨fun i hi => (congrFun h0 i).trans ?_, fun i hi => (congrFun h1 i).trans ?_, fun i hi => (congrFun h2 i).trans ?_,
      fun i hi => (congrFun h3 i).trans ?_, hargs⟩
    · rw [eq_ix3 i] at hi
      exact congrArg (Cert.Spec.code _) (settled_word _ (Cert.On_exponent_settled.Mask.rowCodes_settled _ _ _ _ _ _ _ _ hi)).2
    · rw [eq_ix3 i] at hi
      exact congrArg (BitVec.setWidth 8) (settled_word _ (Cert.On_exponent_settled.Mask.rows_settled _ _ _ _ _ _ _ _ hi)).1
    · rw [eq_ix3 i] at hi
      exact congrArg (Cert.Spec.code _) (settled_word _ (Cert.On_exponent_settled.Mask.colCodes_settled _ _ _ _ _ _ _ _ hi)).2
    · rw [eq_ix3 i] at hi
      exact congrArg (BitVec.setWidth 8) (settled_word _ (Cert.On_exponent_settled.Mask.cols_settled _ _ _ _ _ _ _ _ hi)).1
  · refine (θ_run _ _ _).mono (fun r h c => ?_) (Cert.UpdateReferenceIdeal.Blocks.run_results m' g')
    have h := h c
    rw [hw c] at h
    obtain ⟨h0, h1, h2, h3, hargs⟩ := h
    exact ⟨fun i _ => congrFun h0 i, fun i _ => congrFun h1 i, fun i _ => congrFun h2 i, fun i _ => congrFun h3 i, hargs⟩

/-- Every claim. -/
theorem claim : Cert.Claim :=
  ⟨Cert.Kernel.Gen.facts, Cert.KernelIdeal.Gen.facts, Cert.ReferenceIdeal.Gen.facts, Cert.Update.Gen.facts, Cert.UpdateIdeal.Gen.facts,
    Cert.UpdateReferenceIdeal.Gen.facts, ⟨⟩, Cert.On_exponent_settled.Gen.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ,
    fun m ρ _ => Cert.Update.Gen.frame m ρ, fun m ρ _ => Cert.UpdateIdeal.Gen.frame m ρ,
    fun m ρ _ => (θ_run _ _ _).mono (fun r h => ⟨fun c => (h c).2.2.2.2, sem_eq_zero_of_no_sems (by decide) r.2⟩)
      (Cert.UpdateReferenceIdeal.Blocks.run_results m ρ),
    trivial, algebraic, trivial, algebraic_quantise⟩

end Cert.Proof

end
